-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_sqrt_2" .f32 0x3F3504F3#32 (((Real.sqrt 2)⁻¹ : ℝ) : EReal)

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S10x30000x256 : Shape := ⟨3, ![10, 30000, 256]⟩
abbrev S256x128 : Shape := ⟨2, ![256, 128]⟩
abbrev S128x384 : Shape := ⟨2, ![128, 384]⟩
abbrev S384 : Shape := ⟨1, ![384]⟩
abbrev S128x3 : Shape := ⟨2, ![128, 3]⟩
abbrev S3 : Shape := ⟨1, ![3]⟩
abbrev S10x30000x5 : Shape := ⟨3, ![10, 30000, 5]⟩
abbrev S5 : Shape := ⟨1, ![5]⟩
abbrev S128x128 : Shape := ⟨2, ![128, 128]⟩
abbrev S_ : Shape := ⟨0, ![]⟩

class Facts : Prop where
  slices_S128x384_S128x128_0_256 : S128x384.Slices ![0, 256] S128x128
  bcast_S_S128x128 : S_.BroadcastsInDim S128x128 (![] : Fin 0 → Fin S128x128.rank)
  reducesTo_S128x128_S_d0_1 : S128x128.ReducesTo [0, 1] S_
  h_S_ : 0 < S_.numel
  bcast_S_S384 : S_.BroadcastsInDim S384 (![] : Fin 0 → Fin S384.rank)
  reducesTo_S384_S_d0 : S384.ReducesTo [0] S_
  bcast_S_S3 : S_.BroadcastsInDim S3 (![] : Fin 0 → Fin S3.rank)
  reducesTo_S3_S_d0 : S3.ReducesTo [0] S_
  reducesTo_S5_S_d0 : S5.ReducesTo [0] S_

variable [Facts]

def fn_part1 {F : FTy → Type} [FloatOps F] (main_arg9 : IVec S5 32) (main_v12 : IVec S_ 1) (main_v15 : IVec S_ 1) : IVec S_ 1 :=
  let main_v16 : IVec S_ 1 := andi main_v12 main_v15
  let main_v17 : IVec S5 32 := iotaInDim S5 32 0
  let main_v18 : IVec S5 1 := cmpi .eq main_arg9 main_v17
  let main_c_6 : IVec S_ 1 := constantI S_ 1 1#1
  let main_v19 : IVec S_ 1 := (fun x v => Host.reduce IntOp.andi x v reducesTo_S5_S_d0 h_S_) main_v18 main_c_6
  let main_v20 : IVec S_ 1 := andi main_v16 main_v19
  main_v20

def fn {F : FTy → Type} [FloatOps F] (main_arg0 : FVec F S10x30000x256 .f32) (main_arg1 : FVec F S256x128 .f32) (main_arg2 : FVec F S128x384 .f32) (main_arg3 : FVec F S128x384 .f32) (main_arg4 : FVec F S384 .f32) (main_arg5 : FVec F S384 .f32) (main_arg6 : FVec F S128x3 .f32) (main_arg7 : FVec F S3 .f32) (main_arg8 : FVec F S10x30000x5 .f32) (main_arg9 : IVec S5 32) : IVec S_ 1 :=
  let main_v0 : FVec F S128x128 .f32 := (extractStridedSlice S128x128 ![0, 256] · slices_S128x384_S128x128_0_256) main_arg3
  let main_v1 : FVec F S128x128 .f32 := Host.absf main_v0
  let main_cst : FVec F S_ .f32 := constant S_ .f32 0x7F800000#32
  let main_v2 : FVec F S128x128 .f32 := broadcastInDim S128x128 ![] bcast_S_S128x128 main_cst
  let main_v3 : IVec S128x128 1 := cmpf .olt main_v1 main_v2
  let main_c : IVec S_ 1 := constantI S_ 1 1#1
  let main_v4 : IVec S_ 1 := (fun x v => Host.reduce IntOp.andi x v reducesTo_S128x128_S_d0_1 h_S_) main_v3 main_c
  let main_cst_0 : FVec F S_ .f32 := constant S_ .f32 0x00000000#32
  let main_v5 : FVec F S384 .f32 := broadcastInDim S384 ![] bcast_S_S384 main_cst_0
  let main_v6 : IVec S384 1 := cmpf .oeq main_arg4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v4 main_v7
  let main_cst_2 : FVec F S_ .f32 := constant S_ .f32 0x00000000#32
  let main_v9 : FVec F S384 .f32 := broadcastInDim S384 ![] bcast_S_S384 main_cst_2
  let main_v10 : IVec S384 1 := cmpf .oeq main_arg5 main_v9
  let main_c_3 : IVec S_ 1 := constantI S_ 1 1#1
  let main_v11 : IVec S_ 1 := (fun x v => Host.reduce IntOp.andi x v reducesTo_S384_S_d0 h_S_) main_v10 main_c_3
  let main_v12 : IVec S_ 1 := andi main_v8 main_v11
  let main_cst_4 : FVec F S_ .f32 := constant S_ .f32 0x00000000#32
  let main_v13 : FVec F S3 .f32 := broadcastInDim S3 ![] bcast_S_S3 main_cst_4
  let main_v14 : IVec S3 1 := cmpf .oeq main_arg7 main_v13
  let main_c_5 : IVec S_ 1 := constantI S_ 1 1#1
  let main_v15 : IVec S_ 1 := (fun x v => Host.reduce IntOp.andi x v reducesTo_S3_S_d0 h_S_) main_v14 main_c_5
  fn_part1 (F := F) main_arg9 main_v12 main_v15
-- ==== Kernel.lean ====
abbrev S10x30000x256 : Shape := ⟨3, ![10, 30000, 256]⟩
abbrev S256x128 : Shape := ⟨2, ![256, 128]⟩
abbrev S128x384 : Shape := ⟨2, ![128, 384]⟩
abbrev S384 : Shape := ⟨1, ![384]⟩
abbrev S128x3 : Shape := ⟨2, ![128, 3]⟩
abbrev S3 : Shape := ⟨1, ![3]⟩
abbrev S10x30000x5 : Shape := ⟨3, ![10, 30000, 5]⟩
abbrev S5 : Shape := ⟨1, ![5]⟩
abbrev S1x1x128 : Shape := ⟨3, ![1, 1, 128]⟩
abbrev S1x1x1 : Shape := ⟨3, ![1, 1, 1]⟩
abbrev S_ : Shape := ⟨0, ![]⟩
abbrev S10x600x256 : Shape := ⟨3, ![10, 600, 256]⟩
abbrev S5x600x5 : Shape := ⟨3, ![5, 600, 5]⟩
abbrev S6000x256 : Shape := ⟨2, ![6000, 256]⟩
abbrev S6000x128 : Shape := ⟨2, ![6000, 128]⟩
abbrev S600x128 : Shape := ⟨2, ![600, 128]⟩
abbrev S1x600x128 : Shape := ⟨3, ![1, 600, 128]⟩
abbrev S1 : Shape := ⟨1, ![1]⟩
abbrev S3000x128 : Shape := ⟨2, ![3000, 128]⟩
abbrev S3000x384 : Shape := ⟨2, ![3000, 384]⟩
abbrev S3000x3 : Shape := ⟨2, ![3000, 3]⟩
abbrev S5x1 : Shape := ⟨2, ![5, 1]⟩
abbrev S5x600 : Shape := ⟨2, ![5, 600]⟩
abbrev S600x3 : Shape := ⟨2, ![600, 3]⟩
abbrev S3x600 : Shape := ⟨2, ![3, 600]⟩
abbrev S1x600 : Shape := ⟨2, ![1, 600]⟩
abbrev S4x600 : Shape := ⟨2, ![4, 600]⟩
abbrev S1x600x5 : Shape := ⟨3, ![1, 600, 5]⟩
abbrev S600x5 : Shape := ⟨2, ![600, 5]⟩
abbrev S1x5x600 : Shape := ⟨3, ![1, 5, 600]⟩
abbrev S1x128 : Shape := ⟨2, ![1, 128]⟩

abbrev nBuf : Space → Nat
  | .hbm => 23
  | .vmem => 10
  | .smem => 0
  | _ => 0

abbrev bufTy : (tb : Table) → Fin (tcTables nBuf tb) → BufTy
  | .hbm, ⟨0, _⟩ => ⟨S10x30000x256, .f32⟩
  | .hbm, ⟨1, _⟩ => ⟨S256x128, .f32⟩
  | .hbm, ⟨2, _⟩ => ⟨S128x384, .f32⟩
  | .hbm, ⟨3, _⟩ => ⟨S128x384, .f32⟩
  | .hbm, ⟨4, _⟩ => ⟨S384, .f32⟩
  | .hbm, ⟨5, _⟩ => ⟨S384, .f32⟩
  | .hbm, ⟨6, _⟩ => ⟨S128x3, .f32⟩
  | .hbm, ⟨7, _⟩ => ⟨S3, .f32⟩
  | .hbm, ⟨8, _⟩ => ⟨S10x30000x5, .f32⟩
  | .hbm, ⟨9, _⟩ => ⟨S5, .i32⟩
  | .hbm, ⟨10, _⟩ => ⟨S1x1x128, .f32⟩
  | .hbm, ⟨11, _⟩ => ⟨S1x1x128, .f32⟩
  | .hbm, ⟨12, _⟩ => ⟨S1x1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S10x600x256, .f32⟩
  | .local _ .vmem, ⟨1, _⟩ => ⟨S10x600x256, .f32⟩
  | .local _ .vmem, ⟨2, _⟩ => ⟨S5x600x5, .f32⟩
  | .local _ .vmem, ⟨3, _⟩ => ⟨S5x600x5, .f32⟩
  | .local _ .vmem, ⟨4, _⟩ => ⟨S256x128, .f32⟩
  | .local _ .vmem, ⟨5, _⟩ => ⟨S128x384, .f32⟩
  | .local _ .vmem, ⟨6, _⟩ => ⟨S128x384, .f32⟩
  | .local _ .vmem, ⟨7, _⟩ => ⟨S128x3, .f32⟩
  | .local _ .vmem, ⟨8, _⟩ => ⟨S1x1x128, .f32⟩
  | .local _ .vmem, ⟨9, _⟩ => ⟨S1x1x128, .f32⟩
  | _, _ => ⟨S10x30000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0_0 : Ref sig .tc := ⟨.hbm, 10, rfl⟩
abbrev main_call0_v0_1 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_cst_0 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S10x600x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x600x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_sqrt_2" => some (((Real.sqrt 2)⁻¹ : ℝ) : EReal)
  | _ => none
-- ==== ReferenceIdeal.lean ====
abbrev S10x30000x256 : Shape := ⟨3, ![10, 30000, 256]⟩
abbrev S256x128 : Shape := ⟨2, ![256, 128]⟩
abbrev S128x384 : Shape := ⟨2, ![128, 384]⟩
abbrev S384 : Shape := ⟨1, ![384]⟩
abbrev S128x3 : Shape := ⟨2, ![128, 3]⟩
abbrev S3 : Shape := ⟨1, ![3]⟩
abbrev S10x30000x5 : Shape := ⟨3, ![10, 30000, 5]⟩
abbrev S5 : Shape := ⟨1, ![5]⟩
abbrev S10x30000x128 : Shape := ⟨3, ![10, 30000, 128]⟩
abbrev S_ : Shape := ⟨0, ![]⟩
abbrev S9x30000x128 : Shape := ⟨3, ![9, 30000, 128]⟩
abbrev S9x30000 : Shape := ⟨2, ![9, 30000]⟩
abbrev S5x1 : Shape := ⟨2, ![5, 1]⟩
abbrev S5x30000x128 : Shape := ⟨3, ![5, 30000, 128]⟩
abbrev S5x30000x384 : Shape := ⟨3, ![5, 30000, 384]⟩
abbrev S1x1x384 : Shape := ⟨3, ![1, 1, 384]⟩
abbrev S5x30000x3 : Shape := ⟨3, ![5, 30000, 3]⟩
abbrev S1x1x3 : Shape := ⟨3, ![1, 1, 3]⟩
abbrev S5x30000x1 : Shape := ⟨3, ![5, 30000, 1]⟩
abbrev S5x30000 : Shape := ⟨2, ![5, 30000]⟩
abbrev S1x1x5 : Shape := ⟨3, ![1, 1, 5]⟩
abbrev S5x30000x5 : Shape := ⟨3, ![5, 30000, 5]⟩
abbrev S5x30000x4 : Shape := ⟨3, ![5, 30000, 4]⟩

abbrev nBuf : Space → Nat
  | .hbm => 308
  | .vmem => 0
  | .smem => 0
  | _ => 0

abbrev hbmTy0_0 (i : Nat) : BufTy := match i % 128 with
  | 0 => ⟨S10x30000x256, .f32⟩
  | 1 => ⟨S256x128, .f32⟩
  | 2 => ⟨S128x384, .f32⟩
  | 3 => ⟨S128x384, .f32⟩
  | 4 => ⟨S384, .f32⟩
  | 5 => ⟨S384, .f32⟩
  | 6 => ⟨S128x3, .f32⟩
  | 7 => ⟨S3, .f32⟩
  | 8 => ⟨S10x30000x5, .f32⟩
  | 9 => ⟨S5, .i32⟩
  | 10 => ⟨S10x30000x128, .f32⟩
  | 11 => ⟨S_, .f32⟩
  | 12 => ⟨S10x30000x128, .f32⟩
  | 13 => ⟨S10x30000x128, .f32⟩
  | 14 => ⟨S9x30000x128, .f32⟩
  | 15 => ⟨S9x30000x128, .f32⟩
  | 16 => ⟨S9x30000x128, .f32⟩
  | 17 => ⟨S9x30000x128, .f32⟩
  | 18 => ⟨S_, .f32⟩
  | 19 => ⟨S9x30000, .f32⟩
  | 20 => ⟨S_, .f32⟩
  | 21 => ⟨S_, .f32⟩
  | 22 => ⟨S_, .f32⟩
  | 23 => ⟨S_, .f32⟩
  | 24 => ⟨S_, .i32⟩
  | 25 => ⟨S5, .i32⟩
  | 26 => ⟨S5, .i1⟩
  | 27 => ⟨S_, .i32⟩
  | 28 => ⟨S5, .i32⟩
  | 29 => ⟨S5, .i32⟩
  | 30 => ⟨S5, .i32⟩
  | 31 => ⟨S5x1, .i32⟩
  | 32 => ⟨S5x30000x128, .f32⟩
  | 33 => ⟨S5x30000x384, .f32⟩
  | 34 => ⟨S1x1x384, .f32⟩
  | 35 => ⟨S5x30000x384, .f32⟩
  | 36 => ⟨S5x30000x384, .f32⟩
  | 37 => ⟨S5x30000x128, .f32⟩
  | 38 => ⟨S5x30000x128, .f32⟩
  | 39 => ⟨S5x30000x128, .f32⟩
  | 40 => ⟨S_, .f32⟩
  | 41 => ⟨S5x30000x128, .f32⟩
  | 42 => ⟨S5x30000x384, .f32⟩
  | 43 => ⟨S1x1x384, .f32⟩
  | 44 => ⟨S5x30000x384, .f32⟩
  | 45 => ⟨S5x30000x384, .f32⟩
  | 46 => ⟨S5x30000x128, .f32⟩
  | 47 => ⟨S5x30000x128, .f32⟩
  | 48 => ⟨S5x30000x128, .f32⟩
  | 49 => ⟨S5x30000x128, .f32⟩
  | 50 => ⟨S5x30000x128, .f32⟩
  | 51 => ⟨S5x30000x128, .f32⟩
  | 52 => ⟨S_, .f32⟩
  | 53 => ⟨S5x30000x128, .f32⟩
  | 54 => ⟨S5x30000x128, .f32⟩
  | 55 => ⟨S_, .f32⟩
  | 56 => ⟨S5x30000x128, .f32⟩
  | 57 => ⟨S5x30000x128, .f32⟩
  | 58 => ⟨S5x30000x128, .f32⟩
  | 59 => ⟨S5x30000x128, .f32⟩
  | 60 => ⟨S5x30000x128, .f32⟩
  | 61 => ⟨S_, .f32⟩
  | 62 => ⟨S5x30000x128, .f32⟩
  | 63 => ⟨S5x30000x128, .f32⟩
  | 64 => ⟨S_, .f32⟩
  | 65 => ⟨S5x30000x128, .f32⟩
  | 66 => ⟨S5x30000x128, .f32⟩
  | 67 => ⟨S5x30000x128, .f32⟩
  | 68 => ⟨S5x30000x128, .f32⟩
  | 69 => ⟨S5x30000x128, .f32⟩
  | 70 => ⟨S_, .f32⟩
  | 71 => ⟨S5x30000x128, .f32⟩
  | 72 => ⟨S5x30000x128, .f32⟩
  | 73 => ⟨S5x30000x128, .f32⟩
  | 74 => ⟨S5x30000x128, .f32⟩
  | 75 => ⟨S5x30000x128, .f32⟩
  | 76 => ⟨S5x30000x384, .f32⟩
  | 77 => ⟨S1x1x384, .f32⟩
  | 78 => ⟨S5x30000x384, .f32⟩
  | 79 => ⟨S5x30000x384, .f32⟩
  | 80 => ⟨S5x30000x128, .f32⟩
  | 81 => ⟨S5x30000x128, .f32⟩
  | 82 => ⟨S5x30000x128, .f32⟩
  | 83 => ⟨S5x30000x128, .f32⟩
  | 84 => ⟨S5x30000x128, .f32⟩
  | 85 => ⟨S5x30000x128, .f32⟩
  | 86 => ⟨S_, .f32⟩
  | 87 => ⟨S5x30000x128, .f32⟩
  | 88 => ⟨S5x30000x128, .f32⟩
  | 89 => ⟨S_, .f32⟩
  | 90 => ⟨S5x30000x128, .f32⟩
  | 91 => ⟨S5x30000x128, .f32⟩
  | 92 => ⟨S5x30000x128, .f32⟩
  | 93 => ⟨S5x30000x128, .f32⟩
  | 94 => ⟨S5x30000x128, .f32⟩
  | 95 => ⟨S_, .f32⟩
  | 96 => ⟨S5x30000x128, .f32⟩
  | 97 => ⟨S5x30000x128, .f32⟩
  | 98 => ⟨S_, .f32⟩
  | 99 => ⟨S5x30000x128, .f32⟩
  | 100 => ⟨S5x30000x128, .f32⟩
  | 101 => ⟨S5x30000x128, .f32⟩
  | 102 => ⟨S5x30000x128, .f32⟩
  | 103 => ⟨S5x30000x128, .f32⟩
  | 104 => ⟨S_, .f32⟩
  | 105 => ⟨S5x30000x128, .f32⟩
  | 106 => ⟨S5x30000x128, .f32⟩
  | 107 => ⟨S5x30000x128, .f32⟩
  | 108 => ⟨S5x30000x128, .f32⟩
  | 109 => ⟨S5x30000x128, .f32⟩
  | 110 => ⟨S5x30000x384, .f32⟩
  | 111 => ⟨S1x1x384, .f32⟩
  | 112 => ⟨S5x30000x384, .f32⟩
  | 113 => ⟨S5x30000x384, .f32⟩
  | 114 => ⟨S5x30000x128, .f32⟩
  | 115 => ⟨S5x30000x128, .f32⟩
  | 116 => ⟨S5x30000x128, .f32⟩
  | 117 => ⟨S5x30000x128, .f32⟩
  | 118 => ⟨S5x30000x128, .f32⟩
  | 119 => ⟨S5x30000x128, .f32⟩
  | 120 => ⟨S_, .f32⟩
  | 121 => ⟨S5x30000x128, .f32⟩
  | 122 => ⟨S5x30000x128, .f32⟩
  | 123 => ⟨S_, .f32⟩
  | 124 => ⟨S5x30000x128, .f32⟩
  | 125 => ⟨S5x30000x128, .f32⟩
  | 126 => ⟨S5x30000x128, .f32⟩
  | 127 => ⟨S5x30000x128, .f32⟩
  | _ => ⟨S10x30000x256, .f32⟩

abbrev hbmTy0_1 (i : Nat) : BufTy := match i % 128 with
  | 0 => ⟨S5x30000x128, .f32⟩
  | 1 => ⟨S_, .f32⟩
  | 2 => ⟨S5x30000x128, .f32⟩
  | 3 => ⟨S5x30000x128, .f32⟩
  | 4 => ⟨S_, .f32⟩
  | 5 => ⟨S5x30000x128, .f32⟩
  | 6 => ⟨S5x30000x128, .f32⟩
  | 7 => ⟨S5x30000x128, .f32⟩
  | 8 => ⟨S5x30000x128, .f32⟩
  | 9 => ⟨S5x30000x128, .f32⟩
  | 10 => ⟨S_, .f32⟩
  | 11 => ⟨S5x30000x128, .f32⟩
  | 12 => ⟨S5x30000x128, .f32⟩
  | 13 => ⟨S5x30000x128, .f32⟩
  | 14 => ⟨S5x30000x128, .f32⟩
  | 15 => ⟨S5x30000x128, .f32⟩
  | 16 => ⟨S5x30000x384, .f32⟩
  | 17 => ⟨S1x1x384, .f32⟩
  | 18 => ⟨S5x30000x384, .f32⟩
  | 19 => ⟨S5x30000x384, .f32⟩
  | 20 => ⟨S5x30000x128, .f32⟩
  | 21 => ⟨S5x30000x128, .f32⟩
  | 22 => ⟨S5x30000x128, .f32⟩
  | 23 => ⟨S5x30000x128, .f32⟩
  | 24 => ⟨S5x30000x128, .f32⟩
  | 25 => ⟨S5x30000x128, .f32⟩
  | 26 => ⟨S_, .f32⟩
  | 27 => ⟨S5x30000x128, .f32⟩
  | 28 => ⟨S5x30000x128, .f32⟩
  | 29 => ⟨S_, .f32⟩
  | 30 => ⟨S5x30000x128, .f32⟩
  | 31 => ⟨S5x30000x128, .f32⟩
  | 32 => ⟨S5x30000x128, .f32⟩
  | 33 => ⟨S5x30000x128, .f32⟩
  | 34 => ⟨S5x30000x128, .f32⟩
  | 35 => ⟨S_, .f32⟩
  | 36 => ⟨S5x30000x128, .f32⟩
  | 37 => ⟨S5x30000x128, .f32⟩
  | 38 => ⟨S_, .f32⟩
  | 39 => ⟨S5x30000x128, .f32⟩
  | 40 => ⟨S5x30000x128, .f32⟩
  | 41 => ⟨S5x30000x128, .f32⟩
  | 42 => ⟨S5x30000x128, .f32⟩
  | 43 => ⟨S5x30000x128, .f32⟩
  | 44 => ⟨S_, .f32⟩
  | 45 => ⟨S5x30000x128, .f32⟩
  | 46 => ⟨S5x30000x128, .f32⟩
  | 47 => ⟨S5x30000x128, .f32⟩
  | 48 => ⟨S5x30000x128, .f32⟩
  | 49 => ⟨S5x30000x128, .f32⟩
  | 50 => ⟨S5x30000x384, .f32⟩
  | 51 => ⟨S1x1x384, .f32⟩
  | 52 => ⟨S5x30000x384, .f32⟩
  | 53 => ⟨S5x30000x384, .f32⟩
  | 54 => ⟨S5x30000x128, .f32⟩
  | 55 => ⟨S5x30000x128, .f32⟩
  | 56 => ⟨S5x30000x128, .f32⟩
  | 57 => ⟨S5x30000x128, .f32⟩
  | 58 => ⟨S5x30000x128, .f32⟩
  | 59 => ⟨S5x30000x128, .f32⟩
  | 60 => ⟨S_, .f32⟩
  | 61 => ⟨S5x30000x128, .f32⟩
  | 62 => ⟨S5x30000x128, .f32⟩
  | 63 => ⟨S_, .f32⟩
  | 64 => ⟨S5x30000x128, .f32⟩
  | 65 => ⟨S5x30000x128, .f32⟩
  | 66 => ⟨S5x30000x128, .f32⟩
  | 67 => ⟨S5x30000x128, .f32⟩
  | 68 => ⟨S5x30000x128, .f32⟩
  | 69 => ⟨S_, .f32⟩
  | 70 => ⟨S5x30000x128, .f32⟩
  | 71 => ⟨S5x30000x128, .f32⟩
  | 72 => ⟨S_, .f32⟩
  | 73 => ⟨S5x30000x128, .f32⟩
  | 74 => ⟨S5x30000x128, .f32⟩
  | 75 => ⟨S5x30000x128, .f32⟩
  | 76 => ⟨S5x30000x128, .f32⟩
  | 77 => ⟨S5x30000x128, .f32⟩
  | 78 => ⟨S_, .f32⟩
  | 79 => ⟨S5x30000x128, .f32⟩
  | 80 => ⟨S5x30000x128, .f32⟩
  | 81 => ⟨S5x30000x128, .f32⟩
  | 82 => ⟨S5x30000x128, .f32⟩
  | 83 => ⟨S5x30000x128, .f32⟩
  | 84 => ⟨S5x30000x3, .f32⟩
  | 85 => ⟨S1x1x3, .f32⟩
  | 86 => ⟨S5x30000x3, .f32⟩
  | 87 => ⟨S5x30000x3, .f32⟩
  | 88 => ⟨S5x30000x1, .f32⟩
  | 89 => ⟨S5x30000, .f32⟩
  | 90 => ⟨S_, .f32⟩
  | 91 => ⟨S5x30000, .f32⟩
  | 92 => ⟨S5x30000, .f32⟩
  | 93 => ⟨S5x30000, .f32⟩
  | 94 => ⟨S5x30000, .f32⟩
  | 95 => ⟨S5x30000, .i1⟩
  | 96 => ⟨S5x30000, .f32⟩
  | 97 => ⟨S5x30000, .f32⟩
  | 98 => ⟨S5x30000, .f32⟩
  | 99 => ⟨S5x30000, .f32⟩
  | 100 => ⟨S5x30000, .f32⟩
  | 101 => ⟨S5x30000, .f32⟩
  | 102 => ⟨S5x30000, .f32⟩
  | 103 => ⟨S5x30000, .f32⟩
  | 104 => ⟨S5x30000x1, .f32⟩
  | 105 => ⟨S5x30000, .f32⟩
  | 106 => ⟨S5x30000x1, .f32⟩
  | 107 => ⟨S5x30000, .f32⟩
  | 108 => ⟨S_, .f32⟩
  | 109 => ⟨S5x30000, .f32⟩
  | 110 => ⟨S5x30000, .f32⟩
  | 111 => ⟨S5x30000, .f32⟩
  | 112 => ⟨S5x30000, .f32⟩
  | 113 => ⟨S5x30000, .i1⟩
  | 114 => ⟨S5x30000, .f32⟩
  | 115 => ⟨S5x30000, .f32⟩
  | 116 => ⟨S5x30000, .f32⟩
  | 117 => ⟨S5x30000, .f32⟩
  | 118 => ⟨S5x30000, .f32⟩
  | 119 => ⟨S5x30000, .f32⟩
  | 120 => ⟨S5x30000, .f32⟩
  | 121 => ⟨S5x30000, .f32⟩
  | 122 => ⟨S_, .f32⟩
  | 123 => ⟨S5x30000, .f32⟩
  | 124 => ⟨S5x30000, .f32⟩
  | 125 => ⟨S5, .f32⟩
  | 126 => ⟨S_, .f32⟩
  | 127 => ⟨S5, .f32⟩
  | _ => ⟨S10x30000x256, .f32⟩

abbrev hbmTy0_2 (i : Nat) : BufTy := match i % 128 with
  | 0 => ⟨S5, .f32⟩
  | 1 => ⟨S5, .f32⟩
  | 2 => ⟨S1x1x5, .f32⟩
  | 3 => ⟨S5x30000x1, .f32⟩
  | 4 => ⟨S5x30000x5, .f32⟩
  | 5 => ⟨S5x30000x5, .f32⟩
  | 6 => ⟨S5x30000x5, .f32⟩
  | 7 => ⟨S5x30000x1, .f32⟩
  | 8 => ⟨S5x30000x5, .f32⟩
  | 9 => ⟨S5x30000x5, .f32⟩
  | 10 => ⟨S5x30000x1, .f32⟩
  | 11 => ⟨S_, .f32⟩
  | 12 => ⟨S_, .f32⟩
  | 13 => ⟨S5x30000x5, .f32⟩
  | 14 => ⟨S5x30000x5, .f32⟩
  | 15 => ⟨S5x30000x5, .f32⟩
  | 16 => ⟨S_, .f32⟩
  | 17 => ⟨S5x30000x5, .f32⟩
  | 18 => ⟨S5x30000x5, .f32⟩
  | 19 => ⟨S_, .f32⟩
  | 20 => ⟨S5x30000x5, .f32⟩
  | 21 => ⟨S5x30000x5, .f32⟩
  | 22 => ⟨S5x30000x5, .f32⟩
  | 23 => ⟨S5x30000x5, .f32⟩
  | 24 => ⟨S5x30000x1, .f32⟩
  | 25 => ⟨S5x30000x4, .f32⟩
  | 26 => ⟨S5x30000x4, .f32⟩
  | 27 => ⟨S5x30000x4, .f32⟩
  | 28 => ⟨S5x30000x5, .f32⟩
  | 29 => ⟨S_, .i32⟩
  | 30 => ⟨S5, .i32⟩
  | 31 => ⟨S5, .i1⟩
  | 32 => ⟨S_, .i32⟩
  | 33 => ⟨S5, .i32⟩
  | 34 => ⟨S5, .i32⟩
  | 35 => ⟨S5, .i32⟩
  | 36 => ⟨S5x1, .i32⟩
  | 37 => ⟨S5x30000x5, .f32⟩
  | 38 => ⟨S_, .f32⟩
  | 39 => ⟨S5x30000x5, .f32⟩
  | 40 => ⟨S5x30000x5, .f32⟩
  | 41 => ⟨S5x30000x5, .f32⟩
  | 42 => ⟨S5x30000x5, .f32⟩
  | 43 => ⟨S5x30000x5, .f32⟩
  | 44 => ⟨S5x30000x5, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S10x30000x256, .f32⟩

abbrev hbmTy (i : Nat) : BufTy := match i / 128 with
  | 0 => hbmTy0_0 i
  | 1 => hbmTy0_1 i
  | 2 => hbmTy0_2 i
  | _ => ⟨S10x30000x256, .f32⟩

abbrev bufTy : (tb : Table) → Fin (tcTables nBuf tb) → BufTy
  | .hbm, ⟨i, _⟩ => hbmTy i
  | _, _ => ⟨S10x30000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_14 : Ref sig .tc := ⟨.hbm, 120, rfl⟩
abbrev main_v92 : Ref sig .tc := ⟨.hbm, 121, rfl⟩
abbrev main_v93 : Ref sig .tc := ⟨.hbm, 122, rfl⟩
abbrev main_cst_15 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_16 : Ref sig .tc := ⟨.hbm, 129, rfl⟩
abbrev main_v99 : Ref sig .tc := ⟨.hbm, 130, rfl⟩
abbrev main_v100 : Ref sig .tc := ⟨.hbm, 131, rfl⟩
abbrev main_cst_17 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_18 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_19 : Ref sig .tc := ⟨.hbm, 154, rfl⟩
abbrev main_v121 : Ref sig .tc := ⟨.hbm, 155, rfl⟩
abbrev main_v122 : Ref sig .tc := ⟨.hbm, 156, rfl⟩
abbrev main_cst_20 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_21 : Ref sig .tc := ⟨.hbm, 163, rfl⟩
abbrev main_v128 : Ref sig .tc := ⟨.hbm, 164, rfl⟩
abbrev main_v129 : Ref sig .tc := ⟨.hbm, 165, rfl⟩
abbrev main_cst_22 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_23 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_24 : Ref sig .tc := ⟨.hbm, 188, rfl⟩
abbrev main_v150 : Ref sig .tc := ⟨.hbm, 189, rfl⟩
abbrev main_v151 : Ref sig .tc := ⟨.hbm, 190, rfl⟩
abbrev main_cst_25 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_26 : Ref sig .tc := ⟨.hbm, 197, rfl⟩
abbrev main_v157 : Ref sig .tc := ⟨.hbm, 198, rfl⟩
abbrev main_v158 : Ref sig .tc := ⟨.hbm, 199, rfl⟩
abbrev main_cst_27 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_28 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_call1_cst : Ref sig .tc := ⟨.hbm, 218, rfl⟩
abbrev main_call1_v0 : Ref sig .tc := ⟨.hbm, 219, rfl⟩
abbrev main_call1_v1 : Ref sig .tc := ⟨.hbm, 220, rfl⟩
abbrev main_call1_v2 : Ref sig .tc := ⟨.hbm, 221, rfl⟩
abbrev main_call1_v3 : Ref sig .tc := ⟨.hbm, 222, rfl⟩
abbrev main_call1_v4 : Ref sig .tc := ⟨.hbm, 223, rfl⟩
abbrev main_call1_v5 : Ref sig .tc := ⟨.hbm, 224, rfl⟩
abbrev main_call1_v6 : Ref sig .tc := ⟨.hbm, 225, rfl⟩
abbrev main_call1_v7 : Ref sig .tc := ⟨.hbm, 226, rfl⟩
abbrev main_call1_v8 : Ref sig .tc := ⟨.hbm, 227, rfl⟩
abbrev main_call1_v9 : Ref sig .tc := ⟨.hbm, 228, rfl⟩
abbrev main_call1_v10 : Ref sig .tc := ⟨.hbm, 229, rfl⟩
abbrev main_call1_v11 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_call2_cst : Ref sig .tc := ⟨.hbm, 236, rfl⟩
abbrev main_call2_v0 : Ref sig .tc := ⟨.hbm, 237, rfl⟩
abbrev main_call2_v1 : Ref sig .tc := ⟨.hbm, 238, rfl⟩
abbrev main_call2_v2 : Ref sig .tc := ⟨.hbm, 239, rfl⟩
abbrev main_call2_v3 : Ref sig .tc := ⟨.hbm, 240, rfl⟩
abbrev main_call2_v4 : Ref sig .tc := ⟨.hbm, 241, rfl⟩
abbrev main_call2_v5 : Ref sig .tc := ⟨.hbm, 242, rfl⟩
abbrev main_call2_v6 : Ref sig .tc := ⟨.hbm, 243, rfl⟩
abbrev main_call2_v7 : Ref sig .tc := ⟨.hbm, 244, rfl⟩
abbrev main_call2_v8 : Ref sig .tc := ⟨.hbm, 245, rfl⟩
abbrev main_call2_v9 : Ref sig .tc := ⟨.hbm, 246, rfl⟩
abbrev main_call2_v10 : Ref sig .tc := ⟨.hbm, 247, rfl⟩
abbrev main_call2_v11 : Ref sig .tc := ⟨.hbm, 248, rfl⟩
abbrev main_v180 : Ref sig .tc := ⟨.hbm, 249, rfl⟩
abbrev main_cst_29 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_cst_30 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_cst_31 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_cst_32 : Ref sig .tc := ⟨.hbm, 272, rfl⟩
abbrev main_v200 : Ref sig .tc := ⟨.hbm, 273, rfl⟩
abbrev main_v201 : Ref sig .tc := ⟨.hbm, 274, rfl⟩
abbrev main_cst_33 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_c_34 : Ref sig .tc := ⟨.hbm, 285, rfl⟩
abbrev main_v211 : Ref sig .tc := ⟨.hbm, 286, rfl⟩
abbrev main_v212 : Ref sig .tc := ⟨.hbm, 287, rfl⟩
abbrev main_c_35 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_cst_36 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_cst_37 : Ref sig .tc := ⟨.hbm, 301, rfl⟩
abbrev main_v224 : Ref sig .tc := ⟨.hbm, 302, rfl⟩
abbrev main_cst_38 : Ref sig .tc := ⟨.hbm, 303, rfl⟩
abbrev main_v225 : Ref sig .tc := ⟨.hbm, 304, rfl⟩
abbrev main_cst_39 : Ref sig .tc := ⟨.hbm, 305, rfl⟩
abbrev main_v226 : Ref sig .tc := ⟨.hbm, 306, rfl⟩
abbrev main_v227 : Ref sig .tc := ⟨.hbm, 307, rfl⟩

abbrev nD : Nat := 1
abbrev τ : Topo := Topo.v7x

variable {F : FTy → Type} [FloatOps F]
-- ==== Proof.KBody.lean ====
module

public import proofs.«01_k».proof.Proof.Gen.KernelIdeal.Frame
public import Idealize.ShloMosaic.Lib.Pipeline.Value
public import Idealize.ShloMosaic.Lib.Tactic

@[expose] public section

noncomputable section

namespace Cert.KernelIdeal.Body

open Idealize.ShloMosaic Idealize.ShloMosaic.TcCoe Idealize.SL.Sem
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The hidden state of the block's rows after the last of the five steps, times the head weights: the three head
    values of each of the block's 3000 (year, grid cell) rows. -/
def heads (x0 : Vec F S10x600x256 .f32) (x2 : Vec F S256x128 .f32) (x3 x4 : Vec F S128x384 .f32) (x5 : Vec F S128x3 .f32) :
    FVec F S3000x3 .f32 :=
  have e := k0_pay5 x0 x2
  have r := k0_pay10 e x3
  have z := k0_pay11 e x3
  have n := k0_pay12 e x3
  have h := k0_pay13 e x3
  have w := k0_pay14 x4
  have a := k0_pay16 e x3 x4
  have b := k0_pay17 e x3 x4
  k0_pay22 r z n w (k0_pay18 r z n h w a b) (k0_pay20 r z n h w a b) (k0_pay21 r z n h w a b) x5

/-- Year `y`'s slab of a block of targets. -/
def slab (x1 : Vec F S5x600x5 .f32) (y : ℕ) (h : ∀ a, (![y, 0, 0] : Fin 3 → ℕ) a + S1x600x5.size a ≤ S5x600x5.size a) : Vec F S1x600x5 .f32 :=
  View.ld x1 (Rect.unit (s := S5x600x5) ![y, 0, 0] S1x600x5.size h)

/-- The prediction accumulator after a block whose rows have the head values `v` and whose targets are `x1`. -/
def predOf (v : FVec F S3000x3 .f32) (x1 : Vec F S5x600x5 .f32) (acc : Vec F S1x1x128 .f32) : FVec F S1x1x128 .f32 :=
  have t := transpose S3x600 [1, 0] (extractStridedSlice S600x3 ![0, 0] v slices_S3000x3_o0_0_S600x3) transposes_S600x3_p1_0_S3x600
  have u := extractStridedSlice S1x600 ![0, 0] t slices_S3x600_o0_0_S1x600
  have a0 := k0_pay30 (k0_pay23 (F := F)) (k0_pay24 (F := F)) t (maximumf u (broadcast S1x600 (Scalar.ofBits .f32 0x00000000#32))) (absf u) (k0_pay29 (F := F))
    (slab x1 0 inb_S5x600x5_S1x600x5_0_0_0)
  have a1 := k0_pay34 (k0_pay23 (F := F)) a0 (k0_pay31 v) (k0_pay32 v) (k0_pay33 (F := F)) (slab x1 1 inb_S5x600x5_S1x600x5_1_0_0)
  have a2 := k0_pay38 a1 (k0_pay36 (slab x1 2 inb_S5x600x5_S1x600x5_2_0_0)) (k0_pay37 (k0_pay23 (F := F)) (k0_pay35 v))
  have a3 := k0_pay41 a2 (k0_pay39 v (k0_pay23 (F := F))) (k0_pay40 (slab x1 3 inb_S5x600x5_S1x600x5_3_0_0)) (Scalar.ofBits .f32 0x3F800000#32)
  k0_pay3 a3 (k0_pay42 v (k0_pay23 (F := F))) (slab x1 4 inb_S5x600x5_S1x600x5_4_0_0) acc

/-- The smoothness accumulator after a block of inputs `x0`. -/
def timeOf (x0 : Vec F S10x600x256 .f32) (x2 : Vec F S256x128 .f32) (acc : Vec F S1x1x128 .f32) : FVec F S1x1x128 .f32 :=
  k0_pay4 (k0_pay8 (k0_pay5 x0 x2) (k0_pay6 x0 x2) (k0_pay7 x0 x2)) acc

/-- At a later point the body adds the block's part to the prediction accumulator. -/
theorem out_B_6 (c : Dev nD) (i : grid0.Coords) (a1 : Memref sig .tc .vmem S10x600x256 .f32) (h1 : a1.IsWhole)
    (a2 : Memref sig .tc .vmem S5x600x5 .f32) (h2 : a2.IsWhole) (a3 : Memref sig .tc .vmem S256x128 .f32) (h3 : a3.IsWhole)
    (a4 : Memref sig .tc .vmem S128x384 .f32) (h4 : a4.IsWhole) (a5 : Memref sig .tc .vmem S128x384 .f32) (h5 : a5.IsWhole)
    (a6 : Memref sig .tc .vmem S128x3 .f32) (h6 : a6.IsWhole) (a7 : Memref sig .tc .vmem S1x1x128 .f32) (h7 : a7.IsWhole)
    (a8 : Memref sig .tc .vmem S1x1x128 .f32) (h8 : a8.IsWhole) (hc : ¬cond0_0 i)
    (x0 : Vec F S10x600x256 .f32) (x1 : Vec F S5x600x5 .f32) (x2 : Vec F S256x128 .f32) (x3 x4 : Vec F S128x384 .f32)
    (x5 : Vec F S128x3 .f32) (xo6 xo7 : Vec F S1x1x128 .f32) :
    out0_B_6 c i a1 h1 a2 h2 a3 h3 a4 h4 a5 h5 a6 h6 a7 h7 a8 h8 hc x0 x1 x2 x3 x4 x5 xo6 xo7
      = predOf (heads x0 x2 x3 x4 x5) x1 xo6 := by
  unfold out0_B_6
  rw [View.read_writes_eq_canon _ _ _ (cover0_B_6 c i a1 h1 a2 h2 a3 h3 a4 h4 a5 h5 a6 h6 a7 h7 a8 h8 hc x0 x1 x2 x3 x4 x5 xo6 xo7)]
  unfold kernelRun0_B
  dsimp only
  sl_unfold_words
  rw [View.canon_unit_zero hz3]
  simp only [View.readAt_eq_ld, h1.read_unread, h2.read_unread, h3.read_unread, h4.read_unread, h5.read_unread, h6.read_unread,
    h7.read_unread, h8.read_unread, View.ld_unit_zero (S := S10x600x256) hz3, View.ld_unit_zero (S := S1x1x128) hz3,
    View.ld_unit_zero (S := S256x128) hz2, View.ld_unit_zero (S := S128x384) hz2, View.ld_unit_zero (S := S128x3) hz2]
  unfold predOf heads slab k0_pay27 k0_pay28 k0_pay26 k0_pay25
  rfl

/-- At a later point the body adds the block's part to the smoothness accumulator. -/
theorem out_B_7 (c : Dev nD) (i : grid0.Coords) (a1 : Memref sig .tc .vmem S10x600x256 .f32) (h1 : a1.IsWhole)
    (a2 : Memref sig .tc .vmem S5x600x5 .f32) (h2 : a2.IsWhole) (a3 : Memref sig .tc .vmem S256x128 .f32) (h3 : a3.IsWhole)
    (a4 : Memref sig .tc .vmem S128x384 .f32) (h4 : a4.IsWhole) (a5 : Memref sig .tc .vmem S128x384 .f32) (h5 : a5.IsWhole)
    (a6 : Memref sig .tc .vmem S128x3 .f32) (h6 : a6.IsWhole) (a7 : Memref sig .tc .vmem S1x1x128 .f32) (h7 : a7.IsWhole)
    (a8 : Memref sig .tc .vmem S1x1x128 .f32) (h8 : a8.IsWhole) (hc : ¬cond0_0 i)
    (x0 : Vec F S10x600x256 .f32) (x1 : Vec F S5x600x5 .f32) (x2 : Vec F S256x128 .f32) (x3 x4 : Vec F S128x384 .f32)
    (x5 : Vec F S128x3 .f32) (xo6 xo7 : Vec F S1x1x128 .f32) :
    out0_B_7 c i a1 h1 a2 h2 a3 h3 a4 h4 a5 h5 a6 h6 a7 h7 a8 h8 hc x0 x1 x2 x3 x4 x5 xo6 xo7
      = timeOf x0 x2 xo7 := by
  unfold out0_B_7
  rw [View.read_writes_eq_canon _ _ _ (cover0_B_7 c i a1 h1 a2 h2 a3 h3 a4 h4 a5 h5 a6 h6 a7 h7 a8 h8 hc x0 x1 x2 x3 x4 x5 xo6 xo7)]
  unfold kernelRun0_B
  dsimp only
  sl_unfold_words
  rw [View.canon_unit_zero hz3]
  simp only [View.readAt_eq_ld, h1.read_unread, h2.read_unread, h3.read_unread, h4.read_unread, h5.read_unread, h6.read_unread,
    h7.read_unread, h8.read_unread, View.ld_unit_zero (S := S10x600x256) hz3, View.ld_unit_zero (S := S1x1x128) hz3,
    View.ld_unit_zero (S := S256x128) hz2, View.ld_unit_zero (S := S128x384) hz2, View.ld_unit_zero (S := S128x3) hz2]
  unfold timeOf
  rfl

/-- At the first point the body stores zero and adds the block's part to it: the prediction accumulator. -/
theorem out_A_6 (c : Dev nD) (i : grid0.Coords) (a1 : Memref sig .tc .vmem S10x600x256 .f32) (h1 : a1.IsWhole)
    (a2 : Memref sig .tc .vmem S5x600x5 .f32) (h2 : a2.IsWhole) (a3 : Memref sig .tc .vmem S256x128 .f32) (h3 : a3.IsWhole)
    (a4 : Memref sig .tc .vmem S128x384 .f32) (h4 : a4.IsWhole) (a5 : Memref sig .tc .vmem S128x384 .f32) (h5 : a5.IsWhole)
    (a6 : Memref sig .tc .vmem S128x3 .f32) (h6 : a6.IsWhole) (a7 : Memref sig .tc .vmem S1x1x128 .f32) (h7 : a7.IsWhole)
    (a8 : Memref sig .tc .vmem S1x1x128 .f32) (h8 : a8.IsWhole) (hc : cond0_0 i)
    (x0 : Vec F S10x600x256 .f32) (x1 : Vec F S5x600x5 .f32) (x2 : Vec F S256x128 .f32) (x3 x4 : Vec F S128x384 .f32)
    (x5 : Vec F S128x3 .f32) :
    out0_A_6 c i a1 h1 a2 h2 a3 h3 a4 h4 a5 h5 a6 h6 a7 h7 a8 h8 hc x0 x1 x2 x3 x4 x5
      = predOf (heads x0 x2 x3 x4 x5) x1 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_cons_unit_zero (S := S1x1x128) hz3, View.readCov_unit_zero (S := S1x1x128) _ hz3]
  simp only [View.readAt_eq_ld, h1.read_unread, h2.read_unread, h3.read_unread, h4.read_unread, h5.read_unread, h6.read_unread,
    h7.read_unread, h8.read_unread, View.ld_unit_zero (S := S10x600x256) hz3, View.ld_unit_zero (S := S1x1x128) hz3,
    View.ld_unit_zero (S := S256x128) hz2, View.ld_unit_zero (S := S128x384) hz2, View.ld_unit_zero (S := S128x3) hz2]
  unfold predOf heads slab k0_pay27 k0_pay28 k0_pay26 k0_pay25
  rfl

/-- At the first point the body stores zero and adds the block's part to it: the smoothness accumulator. -/
theorem out_A_7 (c : Dev nD) (i : grid0.Coords) (a1 : Memref sig .tc .vmem S10x600x256 .f32) (h1 : a1.IsWhole)
    (a2 : Memref sig .tc .vmem S5x600x5 .f32) (h2 : a2.IsWhole) (a3 : Memref sig .tc .vmem S256x128 .f32) (h3 : a3.IsWhole)
    (a4 : Memref sig .tc .vmem S128x384 .f32) (h4 : a4.IsWhole) (a5 : Memref sig .tc .vmem S128x384 .f32) (h5 : a5.IsWhole)
    (a6 : Memref sig .tc .vmem S128x3 .f32) (h6 : a6.IsWhole) (a7 : Memref sig .tc .vmem S1x1x128 .f32) (h7 : a7.IsWhole)
    (a8 : Memref sig .tc .vmem S1x1x128 .f32) (h8 : a8.IsWhole) (hc : cond0_0 i)
    (x0 : Vec F S10x600x256 .f32) (x1 : Vec F S5x600x5 .f32) (x2 : Vec F S256x128 .f32) (x3 x4 : Vec F S128x384 .f32)
    (x5 : Vec F S128x3 .f32) :
    out0_A_7 c i a1 h1 a2 h2 a3 h3 a4 h4 a5 h5 a6 h6 a7 h7 a8 h8 hc x0 x1 x2 x3 x4 x5
      = timeOf x0 x2 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4 x5)]
  unfold kernelRun0_A
  dsimp only
  sl_unfold_words
  rw [View.canon_cons_unit_zero (S := S1x1x128) hz3, View.readCov_unit_zero (S := S1x1x128) _ hz3]
  simp only [View.readAt_eq_ld, h1.read_unread, h2.read_unread, h3.read_unread, h4.read_unread, h5.read_unread, h6.read_unread,
    h7.read_unread, h8.read_unread, View.ld_unit_zero (S := S10x600x256) hz3, View.ld_unit_zero (S := S1x1x128) hz3,
    View.ld_unit_zero (S := S256x128) hz2, View.ld_unit_zero (S := S128x384) hz2, View.ld_unit_zero (S := S128x3) hz2]
  unfold timeOf
  rfl

end Cert.KernelIdeal.Body

end
-- ==== Proof.KRun.lean ====
module

public import proofs.«01_k».proof.Proof.KBody
public import Idealize.ShloMosaic.Lib.StableHlo.Run
public import Idealize.ShloMosaic.Lib.Pointwise

@[expose] public section

noncomputable section

namespace Cert.KernelIdeal.Body

open Idealize.ShloMosaic Idealize.ShloMosaic.TcCoe Idealize.SL.Sem
open Cert.KernelIdeal Cert.KernelIdeal.Gen
open Idealize.ShloMosaic.Pipeline (Dat)

variable {F : FTy → Type} [FloatOps F] [Named F]
variable (m : (ℓ : Loc nD τ sig) → Buf (Elt F) ℓ) (ρ : Dev nD → PrngReg)

/-- The two accumulators after point `n`: zero with the blocks' parts added in point order. -/
def chain (c : Dev nD) : (n : ℕ) → n < cfg0.N → Vec F S1x1x128 .f32 × Vec F S1x1x128 .f32
  | 0, h => (predOf (heads (iblk m c 0 ⟨0, h⟩) (iblk m c 2 ⟨0, h⟩) (iblk m c 3 ⟨0, h⟩) (iblk m c 4 ⟨0, h⟩) (iblk m c 5 ⟨0, h⟩)) (iblk m c 1 ⟨0, h⟩) (k0_pay1 (F := F)),
      timeOf (iblk m c 0 ⟨0, h⟩) (iblk m c 2 ⟨0, h⟩) (k0_pay2 (F := F)))
  | n + 1, h => (predOf (heads (iblk m c 0 ⟨n + 1, h⟩) (iblk m c 2 ⟨n + 1, h⟩) (iblk m c 3 ⟨n + 1, h⟩) (iblk m c 4 ⟨n + 1, h⟩) (iblk m c 5 ⟨n + 1, h⟩)) (iblk m c 1 ⟨n + 1, h⟩) (chain c n (Nat.lt_of_succ_lt h)).1,
      timeOf (iblk m c 0 ⟨n + 1, h⟩) (iblk m c 2 ⟨n + 1, h⟩) (chain c n (Nat.lt_of_succ_lt h)).2)

/-- What the accumulators' buffers hold after point `n` is that chain. -/
theorem outsAt_eq (c : Dev nD) : ∀ (n : ℕ) (h : n < cfg0.N), outsAt0 m c n h = chain m c n h
  | 0, h => (outsAt0_A m c ⟨0, h⟩ rfl).trans (by rw [out_A_6, out_A_7]; rfl)
  | n + 1, h => by
    have hN : cfg0.N = 50 := N_0
    have hB : ¬(⟨n + 1, h⟩ : Fin cfg0.N).val % 50 = 0 := by dsimp only; omega
    rw [outsAt0_B m c ⟨n + 1, h⟩ hB, out_B_6, out_B_7]
    show (predOf _ _ (outsAt0 m c n _).1, timeOf _ _ (outsAt0 m c n _).2) = _
    rw [outsAt_eq c n]
    rfl

/-- The last point. -/
abbrev tl : Fin cfg0.N := ⟨49, by rw [show cfg0.N = 50 from N_0]; decide⟩

/-- The prediction accumulator's array after the grid. -/
abbrev pred (c : Dev nD) : Buf (Elt F) ((c : Thread nD τ).loc main_call0_v0_0) := (chain m c 49 tl.isLt).1
/-- The smoothness accumulator's array after the grid. -/
abbrev time (c : Dev nD) : Buf (Elt F) ((c : Thread nD τ).loc main_call0_v0_1) := (chain m c 49 tl.isLt).2

theorem flushed_6 (c : Dev nD) (t : Fin cfg0.N) (hf : (cfg0.win 6).flush t = true) :
    (dats m 0 c).flushed 6 t = ((cfg0.win 6).blk t).view.read (Elt F) (pred m c) := by
  have hN : cfg0.N = 50 := N_0
  have h3 : t.val = 49 := by have := (flush0_6 t).mp hf; have := t.isLt; omega
  obtain rfl : t = tl := Fin.ext h3
  show (cfg0.win 6).cut (grid0.coords tl) ((dats m 0 c).after 6 tl) = _
  rw [after0_6, outsAt_eq]
  have hz' : (fun a => win0_6.index tl a * main_call0_v0_0.ty.shape.size a) = fun _ => 0 := funext fun a => by fin_cases a <;> decide
  exact (Memref.read_access_unit_zero (Elt F) main_call0_v0_0 hz' (fun a => by rw [congrFun hz' a]; simp) (pred m c)).symm

theorem flushed_7 (c : Dev nD) (t : Fin cfg0.N) (hf : (cfg0.win 7).flush t = true) :
    (dats m 0 c).flushed 7 t = ((cfg0.win 7).blk t).view.read (Elt F) (time m c) := by
  have hN : cfg0.N = 50 := N_0
  have h3 : t.val = 49 := by have := (flush0_7 t).mp hf; have := t.isLt; omega
  obtain rfl : t = tl := Fin.ext h3
  show (cfg0.win 7).cut (grid0.coords tl) ((dats m 0 c).after 7 tl) = _
  rw [after0_7, outsAt_eq]
  have hz' : (fun a => win0_7.index tl a * main_call0_v0_1.ty.shape.size a) = fun _ => 0 := funext fun a => by fin_cases a <;> decide
  exact (Memref.read_access_unit_zero (Elt F) main_call0_v0_1 hz' (fun a => by rw [congrFun hz' a]; simp) (time m c)).symm

theorem final_6 (c : Dev nD) : (dats m 0 c).arrAt 6 cfg0.N = pred m c :=
  (dats m 0 c).arrAt_eq_of_cover 6 (pred m c) (flushed_6 m c) fun i =>
    ⟨tl, (flush0_6 tl).mpr rfl, by
      show i ∈ ((View.whole main_call0_v0_0).slice (win0_6.rect tl)).set
      rw [View.set_slice_whole, Rect.mem_set_unit]
      intro a
      have h0 : (i 0 : Nat) < 1 := (i 0).isLt
      have h1 : (i 1 : Nat) < 1 := (i 1).isLt
      have h2 : (i 2 : Nat) < 128 := (i 2).isLt
      match a with
      | ⟨0, _⟩ => show win0_6.index tl 0 * win0_6.size 0 ≤ (i 0 : Nat) ∧ (i 0 : Nat) < win0_6.index tl 0 * win0_6.size 0 + win0_6.xsize (grid0.coords tl) 0
                  rw [show win0_6.index tl 0 * win0_6.size 0 = 0 from by decide +kernel, show win0_6.xsize (grid0.coords tl) 0 = 1 from by decide +kernel]; omega
      | ⟨1, _⟩ => show win0_6.index tl 1 * win0_6.size 1 ≤ (i 1 : Nat) ∧ (i 1 : Nat) < win0_6.index tl 1 * win0_6.size 1 + win0_6.xsize (grid0.coords tl) 1
                  rw [show win0_6.index tl 1 * win0_6.size 1 = 0 from by decide +kernel, show win0_6.xsize (grid0.coords tl) 1 = 1 from by decide +kernel]; omega
      | ⟨2, _⟩ => show win0_6.index tl 2 * win0_6.size 2 ≤ (i 2 : Nat) ∧ (i 2 : Nat) < win0_6.index tl 2 * win0_6.size 2 + win0_6.xsize (grid0.coords tl) 2
                  rw [show win0_6.index tl 2 * win0_6.size 2 = 0 from by decide +kernel, show win0_6.xsize (grid0.coords tl) 2 = 128 from by decide +kernel]; omega⟩

theorem final_7 (c : Dev nD) : (dats m 0 c).arrAt 7 cfg0.N = time m c :=
  (dats m 0 c).arrAt_eq_of_cover 7 (time m c) (flushed_7 m c) fun i =>
    ⟨tl, (flush0_7 tl).mpr rfl, by
      show i ∈ ((View.whole main_call0_v0_1).slice (win0_7.rect tl)).set
      rw [View.set_slice_whole, Rect.mem_set_unit]
      intro a
      have h0 : (i 0 : Nat) < 1 := (i 0).isLt
      have h1 : (i 1 : Nat) < 1 := (i 1).isLt
      have h2 : (i 2 : Nat) < 128 := (i 2).isLt
      match a with
      | ⟨0, _⟩ => show win0_7.index tl 0 * win0_7.size 0 ≤ (i 0 : Nat) ∧ (i 0 : Nat) < win0_7.index tl 0 * win0_7.size 0 + win0_7.xsize (grid0.coords tl) 0
                  rw [show win0_7.index tl 0 * win0_7.size 0 = 0 from by decide +kernel, show win0_7.xsize (grid0.coords tl) 0 = 1 from by decide +kernel]; omega
      | ⟨1, _⟩ => show win0_7.index tl 1 * win0_7.size 1 ≤ (i 1 : Nat) ∧ (i 1 : Nat) < win0_7.index tl 1 * win0_7.size 1 + win0_7.xsize (grid0.coords tl) 1
                  rw [show win0_7.index tl 1 * win0_7.size 1 = 0 from by decide +kernel, show win0_7.xsize (grid0.coords tl) 1 = 1 from by decide +kernel]; omega
      | ⟨2, _⟩ => show win0_7.index tl 2 * win0_7.size 2 ≤ (i 2 : Nat) ∧ (i 2 : Nat) < win0_7.index tl 2 * win0_7.size 2 + win0_7.xsize (grid0.coords tl) 2
                  rw [show win0_7.index tl 2 * win0_7.size 2 = 0 from by decide +kernel, show win0_7.xsize (grid0.coords tl) 2 = 128 from by decide +kernel]; omega⟩

/-- The kernel's loss from its two accumulators. -/
def tail (p t : Vec F S1x1x128 .f32) : FVec F S_ .f32 :=
  addf (Host.divf (shapeCast S_ (extractStridedSlice S1x1x1 ![0, 0, 0] p slices_S1x1x128_S1x1x1_0_0_0) shapeCasts_S1x1x1_S_) (constant S_ .f32 0x49371B00#32))
    (mulf (constant S_ .f32 0x3A83126F#32)
      (Host.divf (shapeCast S_ (extractStridedSlice S1x1x1 ![0, 0, 0] t slices_S1x1x128_S1x1x1_0_0_0) shapeCasts_S1x1x1_S_) (constant S_ .f32 0x4883D600#32)))

theorem after_tail (V : Valuation τ sig (Elt F)) :
    StableHlo.after hostOps1 V (Proc.devRef .tc main_v0)
      = tail (V (Proc.devRef .tc main_call0_v0_0)) (V (Proc.devRef .tc main_call0_v0_1)) := by
  after_results_simp
  rfl

theorem arr_inj : Function.Injective (Pipeline.arrRef spec0) := by decide

/-- What the result's buffer ends at: the loss of the two accumulators' arrays. -/
theorem W_main_v0 (c : Dev nD) :
    Pipeline.afterTail₀ cfgs (dats m) 0 (V0 m) [hostOps1] c main_v0 = tail (pred m c) (time m c) := by
  unfold Pipeline.afterTail₀
  show StableHlo.after hostOps1 _ (Proc.devRef .tc main_v0) = _
  rw [after_tail]
  have h6 := Pipeline.withArrays_arr spec0 arr_inj c (V0 m c) (fun w => (dats m 0 c).arrAt w cfg0.N) 6
  have h7 := Pipeline.withArrays_arr spec0 arr_inj c (V0 m c) (fun w => (dats m 0 c).arrAt w cfg0.N) 7
  rw [← final_6 m c, ← final_7 m c]
  exact congrArg₂ tail h6 h7

/-- The kernel's run: its result is the loss of the two accumulators after the grid, and its arguments are unchanged. -/
theorem run : θ_run defs (onTc (τ := τ) (main (F := F))) ⟨m, fun _ => 0, ρ⟩ (fun r => ∀ c : Dev nD,
      r.2.mem ((c.tc : Thread nD τ).loc main_v0) = tail (pred m c) (time m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) :=
by
  have h1 : θ_run defs (onTc (τ := τ) (main (F := F))) ⟨m, fun _ => 0, ρ⟩ (fun r => ∀ c : Dev nD,
      r.2.mem ((c.tc : Thread nD τ).loc main_v0) = tail (pred m c) (time m c)) :=
    (θ_run defs _ _).mono (fun _ h c =>
      ((h c).2 main_v0 (Pipeline.mem_restRefs_of main_v0 (by decide) (by decide))).trans (W_main_v0 m c)) (run_main m ρ)
  exact (θ_run defs _ _).mono (fun _ h c => ⟨h.1 c, h.2 c⟩) (θ_run_and h1 (unchanged m ρ))

end Cert.KernelIdeal.Body

end
-- ==== Proof.KForm.lean ====
module

public import proofs.«01_k».proof.Proof.KBody

@[expose] public section

noncomputable section

namespace Cert.KernelIdeal.Body

open Idealize.ShloMosaic Idealize.ShloMosaic.TcCoe Idealize.SL.Sem
open Cert.KernelIdeal Cert.KernelIdeal.Gen

variable {F : FTy → Type} [FloatOps F] [Named F]

/-- One step of the recurrence on the block's rows, from the input parts of the three gates, the recurrent weights and the
    hidden state. -/
def stepK (r z n : FVec F S3000x128 .bf16) (w : FVec F S128x384 .bf16) (h : FVec F S3000x128 .bf16) : FVec F S3000x128 .bf16 :=
  have g := truncf .bf16 (matmul dot_S3000x128_S128x384_S3000x384_1_0_0_1_n_n none h w (constant S3000x384 .f32 0x00000000#32)) bitsLt_bf16_f32
  have gr := extractStridedSlice S3000x128 ![0, 0] g slices_S3000x384_o0_0_S3000x128
  have gz := extractStridedSlice S3000x128 ![0, 128] g slices_S3000x384_o0_128_S3000x128
  have gn := extractStridedSlice S3000x128 ![0, 256] g slices_S3000x384_o0_256_S3000x128
  have half := broadcast S3000x128 (Scalar.ofBits .bf16 0x3F00#16)
  have tr := tanh (mulf half (addf r gr))
  have tz := tanh (mulf half (addf z gz))
  have hn := mulf half gn
  have n' := tanh (addf (addf n hn) (mulf tr hn))
  have c := mulf half (subf h n')
  addf (addf n' c) (mulf tz c)

/-- The head values are the first hidden state put through four steps, times the head weights. -/
theorem heads_eq (x0 : Vec F S10x600x256 .f32) (x2 : Vec F S256x128 .f32) (x3 x4 : Vec F S128x384 .f32) (x5 : Vec F S128x3 .f32) :
    heads x0 x2 x3 x4 x5 =
      have e := k0_pay5 x0 x2
      have s := stepK (k0_pay10 e x3) (k0_pay11 e x3) (k0_pay12 e x3) (k0_pay14 x4)
      matmul dot_S3000x128_S128x3_S3000x3_1_0_0_1_n_n none (s (s (s (s (k0_pay13 e x3))))) (truncf .bf16 x5 bitsLt_bf16_f32)
        (constant S3000x3 .f32 0x00000000#32) := rfl

/-- The squared residuals of one year of the block, from its rows' three head values (one head a row) and its targets. -/
def yearK (t : FVec F S3x600 .f32) (y : Vec F S1x600x5 .f32) : FVec F S5x600 .f32 :=
  have zero := broadcast S1x600 (Scalar.ofBits .f32 0x00000000#32)
  have t0 := extractStridedSlice S1x600 ![0, 0] t slices_S3x600_o0_0_S1x600
  have t1 := extractStridedSlice S1x600 ![1, 0] t slices_S3x600_o1_0_S1x600
  have t2 := extractStridedSlice S1x600 ![2, 0] t slices_S3x600_o2_0_S1x600
  have sp0 := addf (maximumf t0 zero) (log1p (exp (subf zero (absf t0))))
  have sp2 := addf (maximumf t2 zero) (log1p (exp (subf zero (absf t2))))
  have scale := addf sp2 (broadcast S1x600 (Scalar.ofBits .f32 0x3A83126F#32))
  have q := divf (subf (broadcastTo S5x600 (k0_pay23 (F := F)) broadcasts_S5x1_S5x600) (broadcastTo S5x600 t1 broadcasts_S1x600_S5x600))
    (broadcastTo S5x600 scale broadcasts_S1x600_S5x600)
  have e := erf (mulf q (broadcast S5x600 (Named.named κ "inv_sqrt_2" 0x3F3504F3#32)))
  have curve := mulf (broadcastTo S5x600 sp0 broadcasts_S1x600_S5x600)
    (mulf (broadcast S5x600 (Scalar.ofBits .f32 0x3F000000#32)) (addf (broadcast S5x600 (Scalar.ofBits .f32 0x3F800000#32)) e))
  have d := concatenate S5x600 0 [⟨S1x600, extractStridedSlice S1x600 ![0, 0] curve slices_S5x600_o0_0_S1x600⟩,
    ⟨S4x600, subf (extractStridedSlice S4x600 ![1, 0] curve slices_S5x600_o1_0_S4x600) (extractStridedSlice S4x600 ![0, 0] curve slices_S5x600_o0_0_S4x600)⟩]
    concatenates_S1x600_S4x600_S5x600_d0
  have yt := transpose S5x600 [1, 0] (shapeCast S600x5 y shapeCasts_S1x600x5_S600x5) transposes_S600x5_p1_0_S5x600
  have res := subf (log1p (addf yt (broadcast S5x600 (Scalar.ofBits .f32 0x3F800000#32)))) (log1p d)
  mulf res res

/-- The head values of one year's rows, one head a row. -/
def headsT (v : FVec F S3000x3 .f32) (o : ℕ) (h : Shape.Slices S3000x3 ![o, 0] S600x3) : FVec F S3x600 .f32 :=
  transpose S3x600 [1, 0] (extractStridedSlice S600x3 ![o, 0] v h) transposes_S600x3_p1_0_S3x600

/-- The block's squared residuals, its five years added. -/
def yearsK (v : FVec F S3000x3 .f32) (x1 : Vec F S5x600x5 .f32) : FVec F S5x600 .f32 :=
  addf (addf (addf (addf (addf (broadcast S5x600 (Scalar.ofBits .f32 0x00000000#32))
    (yearK (headsT v 0 slices_S3000x3_o0_0_S600x3) (slab x1 0 inb_S5x600x5_S1x600x5_0_0_0)))
    (yearK (headsT v 600 slices_S3000x3_o600_0_S600x3) (slab x1 1 inb_S5x600x5_S1x600x5_1_0_0)))
    (yearK (headsT v 1200 slices_S3000x3_o1200_0_S600x3) (slab x1 2 inb_S5x600x5_S1x600x5_2_0_0)))
    (yearK (headsT v 1800 slices_S3000x3_o1800_0_S600x3) (slab x1 3 inb_S5x600x5_S1x600x5_3_0_0)))
    (yearK (headsT v 2400 slices_S3000x3_o2400_0_S600x3) (slab x1 4 inb_S5x600x5_S1x600x5_4_0_0))

/-- The block's sum of squared residuals. -/
def predSum (v : FVec F S3000x3 .f32) (x1 : Vec F S5x600x5 .f32) : F .f32 :=
  extractAt ![0, 0, 0] (shapeCast S1x1x1 (multiReduction .add [1, 2] S1 (shapeCast S1x5x600 (yearsK v x1) shapeCasts_S5x600_S1x5x600) 0x00000000#32
    reduces_S1x5x600_S1 (.inl rfl) rfl) shapeCasts_S1_S1x1x1) inpos_S1x1x1_p0_0_0

/-- The prediction accumulator has the block's sum added to every lane. -/
theorem predOf_eq (v : FVec F S3000x3 .f32) (x1 : Vec F S5x600x5 .f32) (acc : Vec F S1x1x128 .f32) :
    predOf v x1 acc = shapeCast S1x1x128 (addf (shapeCast S1x128 acc shapeCasts_S1x1x128_S1x128) (broadcast S1x128 (predSum v x1)))
      shapeCasts_S1x128_S1x1x128 := rfl

end Cert.KernelIdeal.Body

end
-- ==== Proof.Consts.lean ====
module

public import Idealize.ShloMosaic.PureOps.Ideal

@[expose] public section

noncomputable section

namespace Cert.Consts

open Idealize.ShloMosaic

/-- One half, as the kernel's 16-bit literal. -/
theorem half_bf16 : Ideal.ofBits .bf16 0x3F00#16 = ((1 / 2 : ℝ) : EReal) := by
  simp [Ideal.ofBits, Ideal.ieee, -EReal.coe_mul]; norm_num

/-- Two. -/
theorem two_f32 : Ideal.ofBits .f32 0x40000000#32 = ((2 : ℝ) : EReal) := by
  simp [Ideal.ofBits, Ideal.ieee, -EReal.coe_mul]; norm_num

/-- Positive infinity, which the precondition compares with. -/
theorem inf_f32 : Ideal.ofBits .f32 0x7F800000#32 = ⊤ := by
  simp [Ideal.ofBits, Ideal.ieee]

end Cert.Consts

end
-- ==== Proof.Row.lean ====
module

public import Idealize.ShloMosaic.PureOps.Ideal
public import Mathlib.Analysis.SpecialFunctions.Trigonometric.DerivHyp
public import Mathlib.Analysis.SpecialFunctions.Pow.Real

@[expose] public section

noncomputable section

namespace Cert.Row

open Idealize.ShloMosaic

/-- An extended real that is a real. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-! ### One gated step of one hidden unit -/

/-- The logistic function, as a quotient. -/
def lgs (x : EReal) : EReal := Ideal.div 1 (1 + Ideal.exp (-x))

/-- The gates as the reference has them, from the input parts `xr`, `xz`, `xn`, the recurrent parts `gr`, `gz`, `gn` and
    the unit's state `h`. -/
def gateR (xr xz xn gr gz gn h : EReal) : EReal :=
  (1 - lgs (xz + gz)) * Ideal.tanh (xn + lgs (xr + gr) * gn) + lgs (xz + gz) * h

/-- One half, over the extended reals. -/
abbrev hf : EReal := ((1 / 2 : ℝ) : EReal)

/-- The gates as the kernel has them: the logistic function through the hyperbolic tangent of half its argument. -/
def gateK (xr xz xn gr gz gn h : EReal) : EReal :=
  Ideal.tanh (xn + hf * gn + Ideal.tanh (hf * (xr + gr)) * (hf * gn))
    + hf * (h - Ideal.tanh (xn + hf * gn + Ideal.tanh (hf * (xr + gr)) * (hf * gn)))
    + Ideal.tanh (hf * (xz + gz)) * (hf * (h - Ideal.tanh (xn + hf * gn + Ideal.tanh (hf * (xr + gr)) * (hf * gn))))

/-- The kernel's first step, from the zero state. -/
def gate0K (xz xn : EReal) : EReal := hf * (1 - Ideal.tanh (hf * xz)) * Ideal.tanh xn

/-- On a real the logistic function is half of one plus the hyperbolic tangent of half its argument. -/
theorem lgs_coe (a : ℝ) : lgs (a : EReal) = (((1 + Real.tanh (1 / 2 * a)) / 2 : ℝ) : EReal) := by
  have hp : 0 < 1 + Real.exp (-a) := by positivity
  have e : Ideal.exp (-(a : EReal)) = ((Real.exp (-a) : ℝ) : EReal) := by rw [← EReal.coe_neg]; rfl
  unfold lgs
  rw [e, ← EReal.coe_one, ← EReal.coe_add]
  unfold Ideal.div
  rw [if_neg (by exact_mod_cast hp.ne'), ← EReal.coe_inv, ← EReal.coe_mul]
  congr 1
  have h1 : Real.exp (-a) = Real.exp (-(1 / 2 * a)) * Real.exp (-(1 / 2 * a)) := by rw [← Real.exp_add]; congr 1; ring
  have h2 : Real.exp (1 / 2 * a) * Real.exp (-(1 / 2 * a)) = 1 := by rw [← Real.exp_add]; simp
  have hx := Real.exp_pos (1 / 2 * a)
  have hy := Real.exp_pos (-(1 / 2 * a))
  rw [Real.tanh_eq_sinh_div_cosh, Real.sinh_eq, Real.cosh_eq, h1]
  generalize Real.exp (1 / 2 * a) = u at *
  generalize Real.exp (-(1 / 2 * a)) = v at *
  have hu : u = 1 / v := by field_simp; linarith
  subst hu
  field_simp
  ring

/-- The hyperbolic tangent of half of any extended real is a real, and gives the logistic function. -/
theorem half_tanh (x : EReal) : ∃ t : ℝ, Ideal.tanh (hf * x) = (t : EReal) ∧ lgs x = (((1 + t) / 2 : ℝ) : EReal) := by
  have hpos : (0 : EReal) < hf := by unfold hf; exact_mod_cast (by norm_num : (0 : ℝ) < 1 / 2)
  induction x using EReal.rec with
  | bot =>
    refine ⟨-1, by rw [EReal.mul_bot_of_pos hpos]; rfl, ?_⟩
    have e : Ideal.exp (-(⊥ : EReal)) = ⊤ := by rw [EReal.neg_bot]; rfl
    unfold lgs Ideal.div
    rw [e, ← EReal.coe_one, EReal.coe_add_top, if_neg EReal.top_ne_zero, EReal.inv_top, mul_zero]
    norm_num
  | coe a => exact ⟨Real.tanh (1 / 2 * a), by unfold hf; rw [← EReal.coe_mul]; rfl, lgs_coe a⟩
  | top =>
    refine ⟨1, by rw [EReal.mul_top_of_pos hpos]; rfl, ?_⟩
    have e : Ideal.exp (-(⊤ : EReal)) = 0 := by rw [EReal.neg_top]; rfl
    unfold lgs Ideal.div
    rw [e, add_zero, if_neg one_ne_zero, ← EReal.coe_one, ← EReal.coe_inv, ← EReal.coe_mul]
    norm_num

/-- The hyperbolic tangent of any extended real is a real. -/
theorem isR_tanh (x : EReal) : IsR (Ideal.tanh x) := by
  induction x using EReal.rec with
  | bot => exact ⟨-1, rfl⟩
  | coe a => exact ⟨Real.tanh a, rfl⟩
  | top => exact ⟨1, rfl⟩

/-- The two forms of the gates agree when the candidate's recurrent part and the state are real. -/
theorem gateK_eq (xr xz xn gr gz : EReal) {gn h : EReal} (h6 : IsR gn) (h7 : IsR h) :
    gateK xr xz xn gr gz gn h = gateR xr xz xn gr gz gn h := by
  obtain ⟨gn, rfl⟩ := h6
  obtain ⟨h, rfl⟩ := h7
  obtain ⟨t, et, el⟩ := half_tanh (xr + gr)
  obtain ⟨u, eu, em⟩ := half_tanh (xz + gz)
  unfold gateK gateR
  rw [et, el, eu, em]
  have e : xn + hf * (gn : EReal) + (t : EReal) * (hf * (gn : EReal)) = xn + (((1 + t) / 2 : ℝ) : EReal) * (gn : EReal) := by
    rw [add_assoc]
    unfold hf
    simp only [← EReal.coe_add, ← EReal.coe_mul]
    congr 2
    ring
  rw [e]
  obtain ⟨n, en⟩ := isR_tanh (xn + (((1 + t) / 2 : ℝ) : EReal) * (gn : EReal))
  rw [en]
  unfold hf
  simp only [← EReal.coe_one, ← EReal.coe_add, ← EReal.coe_mul, ← EReal.coe_sub]
  congr 1
  ring

/-- The kernel's first step is the reference's from the zero state with zero recurrent parts. -/
theorem gate0K_eq (xr xz xn : EReal) : gate0K xz xn = gateR xr xz xn 0 0 0 0 := by
  obtain ⟨u, eu, em⟩ := half_tanh xz
  obtain ⟨n, en⟩ := isR_tanh xn
  unfold gate0K gateR
  simp only [add_zero, mul_zero]
  rw [eu, em, en]
  unfold hf
  simp only [← EReal.coe_one, ← EReal.coe_mul, ← EReal.coe_sub]
  congr 1
  ring

/-- The gates of a real state are a real. -/
theorem isR_gateR (xr xz xn gr gz gn : EReal) {h : EReal} (h7 : IsR h) : IsR (gateR xr xz xn gr gz gn h) := by
  obtain ⟨h, rfl⟩ := h7
  obtain ⟨u, -, em⟩ := half_tanh (xz + gz)
  obtain ⟨n, en⟩ := isR_tanh (xn + lgs (xr + gr) * gn)
  unfold gateR
  rw [em, en]
  simp only [← EReal.coe_one, ← EReal.coe_add, ← EReal.coe_mul, ← EReal.coe_sub]
  exact IsR.coe _

/-! ### One row: an input's 256 features to its embedding, five steps, three head values -/

/-- The three columns of a 384-wide row that belong to unit `k`: reset, update, candidate. -/
abbrev c0 (k : Fin 128) : Fin 384 := ⟨k.val, by omega⟩
abbrev c1 (k : Fin 128) : Fin 384 := ⟨128 + k.val, by omega⟩
abbrev c2 (k : Fin 128) : Fin 384 := ⟨256 + k.val, by omega⟩

/-- The embedding of a row of features: its product with the encoder's weights, cut at zero. -/
def emb (We : Fin 256 → Fin 128 → EReal) (x : Fin 256 → EReal) : Fin 128 → EReal := fun k => max (∑ f, x f * We f k) 0

/-- A row times a 384-wide matrix. -/
def lin (W : Fin 128 → Fin 384 → EReal) (h : Fin 128 → EReal) : Fin 384 → EReal := fun j => ∑ k, h k * W k j

/-- One step of a row's hidden state by gates `G`, from the input parts `x` and the recurrent weights. -/
def step (G : EReal → EReal → EReal → EReal → EReal → EReal → EReal → EReal) (x : Fin 384 → EReal)
    (W : Fin 128 → Fin 384 → EReal) (h : Fin 128 → EReal) : Fin 128 → EReal :=
  fun k => G (x (c0 k)) (x (c1 k)) (x (c2 k)) (lin W h (c0 k)) (lin W h (c1 k)) (lin W h (c2 k)) (h k)

/-- A real row's product with a column of reals is real. -/
theorem isR_lin {W : Fin 128 → Fin 384 → EReal} {h : Fin 128 → EReal} (j : Fin 384) (hW : ∀ k, IsR (W k j)) (hh : ∀ k, IsR (h k)) :
    IsR (lin W h j) := IsR.sum _ _ fun k _ => (hh k).mul (hW k)

theorem isR_step (x : Fin 384 → EReal) (W : Fin 128 → Fin 384 → EReal) {h : Fin 128 → EReal} (hh : ∀ k, IsR (h k)) (k : Fin 128) :
    IsR (step gateR x W h k) := isR_gateR _ _ _ _ _ _ (hh k)

/-- From a real state, with real candidate weights, the kernel's step is the reference's. -/
theorem step_eq (x : Fin 384 → EReal) {W : Fin 128 → Fin 384 → EReal} {h : Fin 128 → EReal} (hW : ∀ k i, IsR (W k (c2 i)))
    (hh : ∀ k, IsR (h k)) : step gateK x W h = step gateR x W h := funext fun k =>
  gateK_eq _ _ _ _ _ (isR_lin _ (fun i => hW i k) hh) (hh k)

/-- A row's hidden state after the reference's five steps from zero. -/
def hidR (x : Fin 384 → EReal) (W : Fin 128 → Fin 384 → EReal) : Fin 128 → EReal :=
  step gateR x W (step gateR x W (step gateR x W (step gateR x W (step gateR x W fun _ => 0))))

/-- A row's hidden state after the kernel's five steps. -/
def hidK (x : Fin 384 → EReal) (W : Fin 128 → Fin 384 → EReal) : Fin 128 → EReal :=
  step gateK x W (step gateK x W (step gateK x W (step gateK x W fun k => gate0K (x (c1 k)) (x (c2 k)))))

/-- With real candidate weights the two agree, whatever the input parts. -/
theorem hid_eq (x : Fin 384 → EReal) {W : Fin 128 → Fin 384 → EReal} (hW : ∀ k i, IsR (W k (c2 i))) : hidK x W = hidR x W := by
  have e0 : (fun k => gate0K (x (c1 k)) (x (c2 k))) = step gateR x W fun _ => 0 := funext fun k => by
    unfold step lin
    simp only [zero_mul, Finset.sum_const_zero]
    exact gate0K_eq (x (c0 k)) _ _
  have r0 := isR_step x W (h := fun _ => 0) fun _ => IsR.zero
  have r1 := isR_step x W r0
  have r2 := isR_step x W r1
  have r3 := isR_step x W r2
  unfold hidK hidR
  rw [e0, step_eq x hW r0, step_eq x hW r1, step_eq x hW r2, step_eq x hW r3]

/-- A row's three head values from its hidden state. -/
def head (Wd : Fin 128 → Fin 3 → EReal) (h : Fin 128 → EReal) : Fin 3 → EReal := fun j => ∑ k, h k * Wd k j

/-! ### The curve of a row's head values and its residuals -/

/-- The softplus function, in its overflow-free form. -/
def sp (x : EReal) : EReal := max x 0 + Ideal.log1p (Ideal.exp (0 - FloatOps.absf (F := Ideal) (φ := .f32) x))

/-- The curve at horizon `l` of a row with head values `v`: the softplus amplitude times half of one plus the error
    function of the scaled log-horizon. -/
def curve (v : Fin 3 → EReal) (l : ℕ) : EReal :=
  sp (v 0) * (Ideal.ofBits .f32 0x3F000000#32 * (1 + Ideal.erf
    (Ideal.div (Ideal.log (FloatOps.sitofp (F := Ideal) .f32 (BitVec.ofNat 32 l) + 1) - v 1) (sp (v 2) + Ideal.ofBits .f32 0x3A83126F#32)
      * (((Real.sqrt 2)⁻¹ : ℝ) : EReal))))

/-- The curve's increment at horizon `l`: its first value, then differences of neighbours. -/
def incr (v : Fin 3 → EReal) (l : ℕ) : EReal := if l < 1 then curve v l else curve v l - curve v (l - 1)

/-- The residual of a target `y` at horizon `l`. -/
def resid (v : Fin 3 → EReal) (y : EReal) (l : ℕ) : EReal := Ideal.log1p (y + 1) - Ideal.log1p (incr v l)

/-- Dividing by the root of two is multiplying by its reciprocal. -/
theorem div_sqrt_two (x : EReal) : Ideal.div x (Ideal.sqrt ((2 : ℝ) : EReal)) = x * (((Real.sqrt 2)⁻¹ : ℝ) : EReal) := by
  have h0 : Real.sqrt 2 ≠ 0 := by positivity
  have e : Ideal.sqrt ((2 : ℝ) : EReal) = ((Real.sqrt 2 : ℝ) : EReal) := by
    show (if (2 : ℝ) < 0 then ⊥ else ((Real.sqrt 2 : ℝ) : EReal)) = _
    rw [if_neg (by norm_num)]
  rw [e]
  unfold Ideal.div
  rw [if_neg (by exact_mod_cast h0), ← EReal.coe_inv]

end Cert.Row

end
-- ==== Proof.KAt.lean ====
module

public import proofs.«01_k».proof.Proof.KForm
public import proofs.«01_k».proof.Proof.Consts
public import proofs.«01_k».proof.Proof.Row
public import Idealize.ShloMosaic.Lib.Pointwise

@[expose] public section

noncomputable section

namespace Cert.KernelIdeal.Body

open Idealize.ShloMosaic Idealize.ShloMosaic.TcCoe Idealize.SL.Sem
open Cert.KernelIdeal Cert.KernelIdeal.Gen Cert.Row

/-- A rank-2 array as a function of its two coordinates, and the rank-3 alike. -/
abbrev mat {a b : ℕ} (x : (⟨2, ![a, b]⟩ : Shape).Idx → EReal) : Fin a → Fin b → EReal := fun i j => x (ix2 i j)
abbrev cub {a b c : ℕ} (x : (⟨3, ![a, b, c]⟩ : Shape).Idx → EReal) : Fin a → Fin b → Fin c → EReal := fun i j k => x (ix3 i j k)

/-- A step of the block's rows, at row `i` and unit `k`. -/
theorem stepK_at (r z n : FVec Ideal S3000x128 .bf16) (w : FVec Ideal S128x384 .bf16) (h : FVec Ideal S3000x128 .bf16) (i : Fin 3000) (k : Fin 128) :
    stepK r z n w h (ix2 i k) = gateK (r (ix2 i k)) (z (ix2 i k)) (n (ix2 i k)) (lin (mat w) (mat h i) (c0 k)) (lin (mat w) (mat h i) (c1 k))
      (lin (mat w) (mat h i) (c2 k)) (h (ix2 i k)) := by
  unfold stepK gateK lin hf
  rw [← Cert.Consts.half_bf16]
  pointwise

/-- The block's embedding at row `600·y + n` of its ten years. -/
theorem pay5_at (x0 : Vec Ideal S10x600x256 .f32) (x2 : Vec Ideal S256x128 .f32) (i : Fin 6000) (k : Fin 128) :
    k0_pay5 x0 x2 (ix2 i k) = emb (mat x2) (cub x0 ⟨i.val / 600, by omega⟩ ⟨i.val % 600, by omega⟩) k := by
  unfold k0_pay5 emb
  pointwise

/-- The input parts of the gates at row `i`. -/
theorem pay9_at (e : FVec Ideal S6000x128 .bf16) (x3 : Vec Ideal S128x384 .f32) (i : Fin 3000) (j : Fin 384) :
    k0_pay9 e x3 (ix2 i j) = lin (mat x3) (mat e ⟨i.val, by omega⟩) j := by
  unfold k0_pay9 lin
  pointwise

theorem pay10_at (e : FVec Ideal S6000x128 .bf16) (x3 : Vec Ideal S128x384 .f32) (i : Fin 3000) (k : Fin 128) :
    k0_pay10 e x3 (ix2 i k) = k0_pay9 e x3 (ix2 i (c0 k)) := by
  unfold k0_pay10
  pointwise

theorem pay11_at (e : FVec Ideal S6000x128 .bf16) (x3 : Vec Ideal S128x384 .f32) (i : Fin 3000) (k : Fin 128) :
    k0_pay11 e x3 (ix2 i k) = k0_pay9 e x3 (ix2 i (c1 k)) := by
  unfold k0_pay11
  pointwise

theorem pay12_at (e : FVec Ideal S6000x128 .bf16) (x3 : Vec Ideal S128x384 .f32) (i : Fin 3000) (k : Fin 128) :
    k0_pay12 e x3 (ix2 i k) = k0_pay9 e x3 (ix2 i (c2 k)) := by
  unfold k0_pay12
  pointwise

/-- The first hidden state at row `i`. -/
theorem pay13_at (e : FVec Ideal S6000x128 .bf16) (x3 : Vec Ideal S128x384 .f32) (i : Fin 3000) (k : Fin 128) :
    k0_pay13 e x3 (ix2 i k) = gate0K (k0_pay11 e x3 (ix2 i k)) (k0_pay12 e x3 (ix2 i k)) := by
  unfold k0_pay13 gate0K hf
  rw [← Cert.Consts.half_bf16]
  pointwise

/-- The block's head values at row `i` of its first five years: the row's own, of its features. -/
theorem heads_at (x0 : Vec Ideal S10x600x256 .f32) (x2 : Vec Ideal S256x128 .f32) (x3 x4 : Vec Ideal S128x384 .f32)
    (x5 : Vec Ideal S128x3 .f32) (i : Fin 3000) (j : Fin 3) :
    heads x0 x2 x3 x4 x5 (ix2 i j)
      = head (mat x5) (hidK (lin (mat x3) (emb (mat x2) (cub x0 ⟨i.val / 600, by omega⟩ ⟨i.val % 600, by omega⟩))) (mat x4)) j := by
  have e9 : ∀ j, k0_pay9 (k0_pay5 x0 x2) x3 (ix2 i j)
      = lin (mat x3) (emb (mat x2) (cub x0 ⟨i.val / 600, by omega⟩ ⟨i.val % 600, by omega⟩)) j := fun j => by
    rw [pay9_at]; congr 1; exact funext fun k => pay5_at x0 x2 _ k
  generalize lin (mat x3) (emb (mat x2) (cub x0 ⟨i.val / 600, by omega⟩ ⟨i.val % 600, by omega⟩)) = x at e9 ⊢
  have es : ∀ (h : FVec Ideal S3000x128 .bf16) (h' : Fin 128 → EReal), mat h i = h' →
      mat (stepK (k0_pay10 (k0_pay5 x0 x2) x3) (k0_pay11 (k0_pay5 x0 x2) x3) (k0_pay12 (k0_pay5 x0 x2) x3) (k0_pay14 x4) h) i
        = step gateK x (mat x4) h' := fun h h' e => funext fun k => by
    subst e
    show stepK _ _ _ _ _ _ = _
    rw [stepK_at, pay10_at, pay11_at, pay12_at, e9, e9, e9]
    rfl
  rw [heads_eq]
  have e0 : mat (k0_pay13 (k0_pay5 x0 x2) x3) i = fun k => gate0K (x (c1 k)) (x (c2 k)) := funext fun k => by
    show k0_pay13 _ _ _ = _
    rw [pay13_at, pay11_at, pay12_at, e9, e9]
  have e4 := es _ _ (es _ _ (es _ _ (es _ _ e0)))
  unfold head hidK
  rw [← e4]
  dsimp only
  pointwise

/-- One year's squared residuals, at horizon `l` and cell `n`. -/
theorem yearK_at (t : FVec Ideal S3x600 .f32) (y : Vec Ideal S1x600x5 .f32) (l : Fin 5) (n : Fin 600) :
    yearK t y (ix2 l n) = resid (fun j => t (ix2 j n)) (y (ix3 0 n l)) l.val * resid (fun j => t (ix2 j n)) (y (ix3 0 n l)) l.val := by
  have hk : (Named.named κ "inv_sqrt_2" 0x3F3504F3#32 : Ideal .f32) = (((Real.sqrt 2)⁻¹ : ℝ) : EReal) :=
    IdealRules.named_const.ideal_named_scalar _ _ _ _ rfl
  unfold yearK k0_pay23 resid incr curve sp
  rw [← hk]
  pointwise
  by_cases hl : l.val < 1
  · rw [dif_pos hl, if_pos hl]; rfl
  · rw [dif_neg hl, if_neg hl, show 1 + (l.val - 1) = l.val by omega]; rfl

/-- One head of one row of one year. -/
theorem headsT_at (v : FVec Ideal S3000x3 .f32) (o : ℕ) (h : Shape.Slices S3000x3 ![o, 0] S600x3) (j : Fin 3) (n : Fin 600)
    (hn : o + n.val < 3000) : headsT v o h (ix2 j n) = v (ix2 ⟨o + n.val, hn⟩ j) := by
  unfold headsT
  pointwise

/-- Year `y`'s slab of the targets. -/
theorem slab_at (x1 : Vec Ideal S5x600x5 .f32) (y : ℕ) (h : ∀ a, (![y, 0, 0] : Fin 3 → ℕ) a + S1x600x5.size a ≤ S5x600x5.size a)
    (hy : y < 5) (n : Fin 600) (l : Fin 5) : slab x1 y h (ix3 0 n l) = x1 (ix3 ⟨y, hy⟩ n l) := by
  unfold slab
  pointwise

/-- A squared residual. -/
def rsq (v : Fin 3 → EReal) (y : EReal) (l : ℕ) : EReal := resid v y l * resid v y l

/-- The block's squared residuals added over its five years. -/
theorem yearsK_at (v : FVec Ideal S3000x3 .f32) (x1 : Vec Ideal S5x600x5 .f32) (l : Fin 5) (n : Fin 600) :
    yearsK v x1 (ix2 l n) = ∑ y : Fin 5, rsq (mat v ⟨600 * y.val + n.val, by omega⟩) (cub x1 y n l) l.val := by
  unfold yearsK
  simp only [ValueIdx.addf_apply, yearK_at]
  have hh : ∀ o h (hn : o + n.val < 3000), (fun j => headsT v o h (ix2 j n)) = mat v ⟨o + n.val, hn⟩ :=
    fun o h hn => funext fun j => headsT_at v o h j n hn
  rw [hh 0 _ (by omega), hh 600 _ (by omega), hh 1200 _ (by omega), hh 1800 _ (by omega), hh 2400 _ (by omega),
    slab_at x1 0 _ (by omega), slab_at x1 1 _ (by omega), slab_at x1 2 _ (by omega), slab_at x1 3 _ (by omega), slab_at x1 4 _ (by omega)]
  simp only [Fin.sum_univ_five]
  pointwise
  rfl

/-- The block's sum of squared residuals, as a sum over horizons, cells and years. -/
theorem predSum_at (v : FVec Ideal S3000x3 .f32) (x1 : Vec Ideal S5x600x5 .f32) :
    predSum v x1 = ∑ l : Fin 5, ∑ n : Fin 600, ∑ y : Fin 5, rsq (mat v ⟨600 * y.val + n.val, by omega⟩) (cub x1 y n l) l.val := by
  simp only [← yearsK_at]
  unfold predSum
  pointwise

/-- The prediction accumulator at lane 0 after a block. -/
theorem predOf_at (v : FVec Ideal S3000x3 .f32) (x1 : Vec Ideal S5x600x5 .f32) (acc : Vec Ideal S1x1x128 .f32) :
    predOf v x1 acc (ix3 0 0 0) = acc (ix3 0 0 0) + predSum v x1 := by
  rw [predOf_eq]
  pointwise

/-- The squared step from one year's embedding to the next at one row and unit. -/
theorem pay8_at (e : FVec Ideal S6000x128 .bf16) (a b : FVec Ideal S600x128 .bf16) :
    k0_pay8 e a b = ∑ n : Fin 600, ∑ k : Fin 128, (a (ix2 n k) + (b (ix2 n k) - mat e ⟨5400 + n.val, by omega⟩ k) * (b (ix2 n k) - mat e ⟨5400 + n.val, by omega⟩ k)) := by
  unfold k0_pay8
  pointwise

theorem pay7_at (x0 : Vec Ideal S10x600x256 .f32) (x2 : Vec Ideal S256x128 .f32) (n : Fin 600) (k : Fin 128) :
    k0_pay7 x0 x2 (ix2 n k) = mat (k0_pay5 x0 x2) ⟨4800 + n.val, by omega⟩ k := by
  unfold k0_pay7
  pointwise

/-- A squared difference. -/
def dsq (x y : EReal) : EReal := (x - y) * (x - y)

/-- The first eight squared steps at one row and unit. -/
theorem pay6_at (x0 : Vec Ideal S10x600x256 .f32) (x2 : Vec Ideal S256x128 .f32) (n : Fin 600) (k : Fin 128) :
    k0_pay6 x0 x2 (ix2 n k) = ∑ t : Fin 8, dsq (mat (k0_pay5 x0 x2) ⟨600 * t.val + n.val, by omega⟩ k)
      (mat (k0_pay5 x0 x2) ⟨600 * (t.val + 1) + n.val, by omega⟩ k) := by
  unfold k0_pay6 dsq
  simp only [Fin.sum_univ_eight]
  pointwise

/-- The block's sum of squared steps. -/
theorem timeSum_at (x0 : Vec Ideal S10x600x256 .f32) (x2 : Vec Ideal S256x128 .f32) :
    k0_pay8 (k0_pay5 x0 x2) (k0_pay6 x0 x2) (k0_pay7 x0 x2) = ∑ n : Fin 600, ∑ k : Fin 128, ∑ t : Fin 9,
      dsq (emb (mat x2) (cub x0 ⟨t.val, by omega⟩ n) k) (emb (mat x2) (cub x0 ⟨t.val + 1, by omega⟩ n) k) := by
  rw [pay8_at]
  refine Finset.sum_congr rfl fun n _ => Finset.sum_congr rfl fun k _ => ?_
  have e5 : ∀ (t : ℕ) (ht : t < 10) (h : 600 * t + n.val < 6000),
      mat (k0_pay5 x0 x2) ⟨600 * t + n.val, h⟩ k = emb (mat x2) (cub x0 ⟨t, ht⟩ n) k := fun t ht h => by
    show k0_pay5 x0 x2 _ = _
    rw [pay5_at]
    have ha : (⟨(600 * t + n.val) / 600, by omega⟩ : Fin 10) = ⟨t, ht⟩ := Fin.ext (show (600 * t + n.val) / 600 = t by omega)
    have hb : (⟨(600 * t + n.val) % 600, by omega⟩ : Fin 600) = n := Fin.ext (show (600 * t + n.val) % 600 = n.val by omega)
    show emb (mat x2) (cub x0 ⟨(600 * t + n.val) / 600, _⟩ ⟨(600 * t + n.val) % 600, _⟩) k = _
    rw [ha, hb]
  rw [pay6_at, pay7_at]
  refine Eq.trans ?_ (Fin.sum_univ_castSucc (n := 8) _).symm
  congr 1
  · exact Finset.sum_congr rfl fun t _ => by rw [e5 t.val (by omega), e5 (t.val + 1) (by omega)]; rfl
  · exact congrArg₂ dsq (e5 8 (by omega) (by omega)) (e5 9 (by omega) (by omega))

/-- The smoothness accumulator at lane 0 after a block. -/
theorem timeOf_at (x0 : Vec Ideal S10x600x256 .f32) (x2 : Vec Ideal S256x128 .f32) (acc : Vec Ideal S1x1x128 .f32) :
    timeOf x0 x2 acc (ix3 0 0 0) = acc (ix3 0 0 0) + k0_pay8 (k0_pay5 x0 x2) (k0_pay6 x0 x2) (k0_pay7 x0 x2) := by
  unfold timeOf k0_pay4
  pointwise

end Cert.KernelIdeal.Body

end
-- ==== Proof.KSum.lean ====
module

public import proofs.«01_k».proof.Proof.KRun
public import proofs.«01_k».proof.Proof.KAt

@[expose] public section

noncomputable section

namespace Cert.KernelIdeal.Body

open Idealize.ShloMosaic Idealize.ShloMosaic.TcCoe Idealize.SL.Sem
open Cert.KernelIdeal Cert.KernelIdeal.Gen Cert.Row

variable (m : (ℓ : Loc nD τ sig) → Buf (Elt Ideal) ℓ)

/-- The arguments as functions of their coordinates. -/
abbrev argX (c : Dev nD) : Fin 10 → Fin 30000 → Fin 256 → EReal := cub (m ((c : Thread nD τ).loc main_arg0))
abbrev argWe (c : Dev nD) : Fin 256 → Fin 128 → EReal := mat (m ((c : Thread nD τ).loc main_arg1))
abbrev argWi (c : Dev nD) : Fin 128 → Fin 384 → EReal := mat (m ((c : Thread nD τ).loc main_arg2))
abbrev argWh (c : Dev nD) : Fin 128 → Fin 384 → EReal := mat (m ((c : Thread nD τ).loc main_arg3))
abbrev argWd (c : Dev nD) : Fin 128 → Fin 3 → EReal := mat (m ((c : Thread nD τ).loc main_arg6))
abbrev argY (c : Dev nD) : Fin 10 → Fin 30000 → Fin 5 → EReal := cub (m ((c : Thread nD τ).loc main_arg8))

theorem index_0 : ∀ t : Fin cfg0.N, win0_0.index t 0 = 0 ∧ win0_0.index t 1 = t.val ∧ win0_0.index t 2 = 0 := by decide +kernel
theorem index_1 : ∀ t : Fin cfg0.N, win0_1.index t 0 = 0 ∧ win0_1.index t 1 = t.val ∧ win0_1.index t 2 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel

theorem t_lt (t : Fin cfg0.N) : t.val < 50 := Nat.lt_of_lt_of_eq t.isLt N_0

/-- Block `t` of the features is their cells `600·t` onwards. -/
theorem iblk_0 (c : Dev nD) (t : Fin cfg0.N) (y : Fin 10) (n : Fin 600) (f : Fin 256) :
    (iblk m c 0 t : Vec Ideal S10x600x256 .f32) (ix3 y n f) = argX m c y ⟨600 * t.val + n.val, by have := t_lt t; omega⟩ f := by
  obtain ⟨h0, h1, h2⟩ := index_0 t
  unfold iblk
  rw [View.read_apply]
  show V m c main_arg0 _ = m (c.tc.loc main_arg0) _
  unfold V
  congr 1
  funext a
  apply Fin.ext
  match a with
  | ⟨0, _⟩ => show win0_0.index t 0 * 10 + 1 * y.val = y.val; rw [h0]; omega
  | ⟨1, _⟩ => show win0_0.index t 1 * 600 + 1 * n.val = 600 * t.val + n.val; rw [h1]; omega
  | ⟨2, _⟩ => show win0_0.index t 2 * 256 + 1 * f.val = f.val; rw [h2]; omega

/-- Block `t` of the targets is the first five years' cells `600·t` onwards. -/
theorem iblk_1 (c : Dev nD) (t : Fin cfg0.N) (y : Fin 5) (n : Fin 600) (l : Fin 5) :
    (iblk m c 1 t : Vec Ideal S5x600x5 .f32) (ix3 y n l) = argY m c ⟨y.val, by omega⟩ ⟨600 * t.val + n.val, by have := t_lt t; omega⟩ l := by
  obtain ⟨h0, h1, h2⟩ := index_1 t
  unfold iblk
  rw [View.read_apply]
  show V m c main_arg8 _ = m (c.tc.loc main_arg8) _
  unfold V
  congr 1
  funext a
  apply Fin.ext
  match a with
  | ⟨0, _⟩ => show win0_1.index t 0 * 5 + 1 * y.val = y.val; rw [h0]; omega
  | ⟨1, _⟩ => show win0_1.index t 1 * 600 + 1 * n.val = 600 * t.val + n.val; rw [h1]; omega
  | ⟨2, _⟩ => show win0_1.index t 2 * 5 + 1 * l.val = l.val; rw [h2]; omega

/-- The weights' blocks are the weights. -/
theorem iblk_2 (c : Dev nD) (t : Fin cfg0.N) : (iblk m c 2 t : Vec Ideal S256x128 .f32) = m ((c : Thread nD τ).loc main_arg1) := by
  obtain ⟨h0, h1⟩ := index_2 t
  funext j
  unfold iblk
  rw [View.read_apply]
  show V m c main_arg1 _ = m (c.tc.loc main_arg1) _
  unfold V
  congr 1
  funext a
  apply Fin.ext
  match a with
  | ⟨0, _⟩ => show win0_2.index t 0 * 256 + 1 * (j 0).val = (j 0).val; rw [h0]; omega
  | ⟨1, _⟩ => show win0_2.index t 1 * 128 + 1 * (j 1).val = (j 1).val; rw [h1]; omega

theorem iblk_3 (c : Dev nD) (t : Fin cfg0.N) : (iblk m c 3 t : Vec Ideal S128x384 .f32) = m ((c : Thread nD τ).loc main_arg2) := by
  obtain ⟨h0, h1⟩ := index_3 t
  funext j
  unfold iblk
  rw [View.read_apply]
  show V m c main_arg2 _ = m (c.tc.loc main_arg2) _
  unfold V
  congr 1
  funext a
  apply Fin.ext
  match a with
  | ⟨0, _⟩ => show win0_3.index t 0 * 128 + 1 * (j 0).val = (j 0).val; rw [h0]; omega
  | ⟨1, _⟩ => show win0_3.index t 1 * 384 + 1 * (j 1).val = (j 1).val; rw [h1]; omega

theorem iblk_4 (c : Dev nD) (t : Fin cfg0.N) : (iblk m c 4 t : Vec Ideal S128x384 .f32) = m ((c : Thread nD τ).loc main_arg3) := by
  obtain ⟨h0, h1⟩ := index_4 t
  funext j
  unfold iblk
  rw [View.read_apply]
  show V m c main_arg3 _ = m (c.tc.loc main_arg3) _
  unfold V
  congr 1
  funext a
  apply Fin.ext
  match a with
  | ⟨0, _⟩ => show win0_4.index t 0 * 128 + 1 * (j 0).val = (j 0).val; rw [h0]; omega
  | ⟨1, _⟩ => show win0_4.index t 1 * 384 + 1 * (j 1).val = (j 1).val; rw [h1]; omega

theorem iblk_5 (c : Dev nD) (t : Fin cfg0.N) : (iblk m c 5 t : Vec Ideal S128x3 .f32) = m ((c : Thread nD τ).loc main_arg6) := by
  obtain ⟨h0, h1⟩ := index_5 t
  funext j
  unfold iblk
  rw [View.read_apply]
  show V m c main_arg6 _ = m (c.tc.loc main_arg6) _
  unfold V
  congr 1
  funext a
  apply Fin.ext
  match a with
  | ⟨0, _⟩ => show win0_5.index t 0 * 128 + 1 * (j 0).val = (j 0).val; rw [h0]; omega
  | ⟨1, _⟩ => show win0_5.index t 1 * 3 + 1 * (j 1).val = (j 1).val; rw [h1]; omega

/-- The head values of year `y` and cell `i`, by the kernel's steps. -/
def rowK (c : Dev nD) (y : Fin 10) (i : Fin 30000) : Fin 3 → EReal :=
  head (argWd m c) (hidK (lin (argWi m c) (emb (argWe m c) (argX m c y i))) (argWh m c))

/-- Cell `n` of block `t`. -/
abbrev cell (t : Fin 50) (n : Fin 600) : Fin 30000 := ⟨600 * t.val + n.val, by omega⟩

/-- Block `t`'s part of the prediction loss. -/
def predPart (c : Dev nD) (t : Fin 50) : EReal :=
  ∑ l : Fin 5, ∑ n : Fin 600, ∑ y : Fin 5, rsq (rowK m c ⟨y.val, by omega⟩ (cell t n)) (argY m c ⟨y.val, by omega⟩ (cell t n) l) l.val

/-- Block `t`'s part of the smoothness loss. -/
def timePart (c : Dev nD) (t : Fin 50) : EReal :=
  ∑ n : Fin 600, ∑ k : Fin 128, ∑ s : Fin 9,
    dsq (emb (argWe m c) (argX m c ⟨s.val, by omega⟩ (cell t n)) k) (emb (argWe m c) (argX m c ⟨s.val + 1, by omega⟩ (cell t n)) k)

theorem predSum_blk (c : Dev nD) (t : Fin cfg0.N) :
    predSum (heads (iblk m c 0 t) (iblk m c 2 t) (iblk m c 3 t) (iblk m c 4 t) (iblk m c 5 t)) (iblk m c 1 t) = predPart m c ⟨t.val, t_lt t⟩ := by
  rw [predSum_at]
  unfold predPart
  refine Finset.sum_congr rfl fun l _ => Finset.sum_congr rfl fun n _ => Finset.sum_congr rfl fun y _ => ?_
  have hr : mat (heads (iblk m c 0 t) (iblk m c 2 t) (iblk m c 3 t) (iblk m c 4 t) (iblk m c 5 t)) ⟨600 * y.val + n.val, by omega⟩
      = rowK m c ⟨y.val, by omega⟩ (cell ⟨t.val, t_lt t⟩ n) := funext fun j => by
    show heads _ _ _ _ _ _ = _
    rw [heads_at, iblk_2, iblk_3, iblk_4, iblk_5]
    have ha : (⟨(600 * y.val + n.val) / 600, by omega⟩ : Fin 10) = ⟨y.val, by omega⟩ := Fin.ext (show (600 * y.val + n.val) / 600 = y.val by omega)
    have hb : (⟨(600 * y.val + n.val) % 600, by omega⟩ : Fin 600) = n := Fin.ext (show (600 * y.val + n.val) % 600 = n.val by omega)
    have hx : cub (iblk m c 0 t : Vec Ideal S10x600x256 .f32) ⟨(600 * y.val + n.val) / 600, by omega⟩ ⟨(600 * y.val + n.val) % 600, by omega⟩
        = argX m c ⟨y.val, by omega⟩ (cell ⟨t.val, t_lt t⟩ n) := by
      rw [ha, hb]; exact funext fun f => iblk_0 m c t _ n f
    exact congrArg (fun x => head (argWd m c) (hidK (lin (argWi m c) (emb (argWe m c) x)) (argWh m c)) j) hx
  rw [hr]
  exact congrArg (fun z => rsq _ z l.val) (iblk_1 m c t y n l)

theorem timeSum_blk (c : Dev nD) (t : Fin cfg0.N) :
    k0_pay8 (k0_pay5 (iblk m c 0 t) (iblk m c 2 t)) (k0_pay6 (iblk m c 0 t) (iblk m c 2 t)) (k0_pay7 (iblk m c 0 t) (iblk m c 2 t))
      = timePart m c ⟨t.val, t_lt t⟩ := by
  rw [timeSum_at, iblk_2]
  unfold timePart
  refine Finset.sum_congr rfl fun n _ => Finset.sum_congr rfl fun k _ => Finset.sum_congr rfl fun s _ => ?_
  have hx : ∀ y : Fin 10, cub (iblk m c 0 t : Vec Ideal S10x600x256 .f32) y n = argX m c y (cell ⟨t.val, t_lt t⟩ n) :=
    fun y => funext fun f => iblk_0 m c t y n f
  rw [hx, hx]

/-- The accumulators at lane 0 after point `n` are the parts of the blocks up to it, added. -/
theorem chain_at (c : Dev nD) : ∀ (n : ℕ) (h : n < cfg0.N) (h' : n < 50),
    (chain m c n h).1 (ix3 0 0 0) = ∑ t : Fin (n + 1), predPart m c ⟨t.val, by omega⟩
    ∧ (chain m c n h).2 (ix3 0 0 0) = ∑ t : Fin (n + 1), timePart m c ⟨t.val, by omega⟩
  | 0, h, h' => by
    unfold chain
    dsimp only
    rw [predOf_at, timeOf_at, predSum_blk, timeSum_blk, Fin.sum_univ_one, Fin.sum_univ_one]
    constructor
    · unfold k0_pay1
      pointwise
    · unfold k0_pay2
      pointwise
  | n + 1, h, h' => by
    obtain ⟨e1, e2⟩ := chain_at c n (Nat.lt_of_succ_lt h) (by omega)
    unfold chain
    dsimp only
    rw [predOf_at, timeOf_at, predSum_blk, timeSum_blk, e1, e2]
    exact ⟨(Fin.sum_univ_castSucc (n := n + 1) fun t : Fin (n + 2) => predPart m c ⟨t.val, by omega⟩).symm,
      (Fin.sum_univ_castSucc (n := n + 1) fun t : Fin (n + 2) => timePart m c ⟨t.val, by omega⟩).symm⟩

/-- The kernel's loss over the reals with infinities: the two sums over blocks, scaled and added. -/
theorem tail_at (c : Dev nD) : tail (pred m c) (time m c)
    = fun _ => Ideal.div (∑ t : Fin 50, predPart m c t) (Ideal.ofBits .f32 0x49371B00#32)
      + Ideal.ofBits .f32 0x3A83126F#32 * Ideal.div (∑ t : Fin 50, timePart m c t) (Ideal.ofBits .f32 0x4883D600#32) := by
  obtain ⟨e1, e2⟩ := chain_at m c 49 tl.isLt (by omega)
  funext j
  rw [show (∑ t : Fin 50, predPart m c t) = pred m c (ix3 0 0 0) from e1.symm, show (∑ t : Fin 50, timePart m c t) = time m c (ix3 0 0 0) from e2.symm]
  unfold tail
  pointwise

end Cert.KernelIdeal.Body

end
-- ==== Proof.RForm.lean ====
module

public import proofs.«01_k».proof.Proof.Gen.ReferenceIdeal.Run

@[expose] public section

noncomputable section

namespace Cert.ReferenceIdeal.Body

open Idealize.ShloMosaic Idealize.ShloMosaic.TcCoe Idealize.SL.Sem
open Cert.ReferenceIdeal Cert.ReferenceIdeal.Gen Cert.ReferenceIdeal.Value

variable {F : FTy → Type} [FloatOps F]

/-- The logistic function as the reference computes it, elementwise. -/
def sigm (x : FVec F S5x30000x128 .f32) : FVec F S5x30000x128 .f32 :=
  have one := broadcastInDim S5x30000x128 ![] bcast_S_S5x30000x128 (constant S_ .f32 0x3F800000#32)
  Host.divf one (addf one (Host.exp (Host.negf x)))

/-- The recurrent part of the gates: the hidden state times the recurrent weights, plus their bias. -/
def hid (W : FVec F S128x384 .f32) (b : FVec F S384 .f32) (h : FVec F S5x30000x128 .f32) : FVec F S5x30000x384 .f32 :=
  addf (Host.dotGeneral dot_S5x30000x128_S128x384_S5x30000x384_2_0_01_1_n_n none h W)
    (broadcastInDim S5x30000x384 ![0, 1, 2] bcast_S1x1x384_S5x30000x384_0_1_2 (broadcastInDim S1x1x384 ![2] bcast_S384_S1x1x384_2 b))

/-- One step of the recurrence, from the input parts of the gates, the recurrent weights, their bias and the hidden state. -/
def stepR (x : FVec F S5x30000x384 .f32) (W : FVec F S128x384 .f32) (b : FVec F S384 .f32) (h : FVec F S5x30000x128 .f32) :
    FVec F S5x30000x128 .f32 :=
  have one := broadcastInDim S5x30000x128 ![] bcast_S_S5x30000x128 (constant S_ .f32 0x3F800000#32)
  have g := hid W b h
  have z := sigm (addf (extractStridedSlice S5x30000x128 ![0, 0, 128] x slices_S5x30000x384_S5x30000x128_0_0_128)
    (extractStridedSlice S5x30000x128 ![0, 0, 128] g slices_S5x30000x384_S5x30000x128_0_0_128))
  have r := sigm (addf (extractStridedSlice S5x30000x128 ![0, 0, 0] x slices_S5x30000x384_S5x30000x128_0_0_0)
    (extractStridedSlice S5x30000x128 ![0, 0, 0] g slices_S5x30000x384_S5x30000x128_0_0_0))
  have n := Host.tanh (addf (extractStridedSlice S5x30000x128 ![0, 0, 256] x slices_S5x30000x384_S5x30000x128_0_0_256)
    (mulf r (extractStridedSlice S5x30000x128 ![0, 0, 256] g slices_S5x30000x384_S5x30000x128_0_0_256)))
  addf (mulf (subf one z) n) (mulf z h)

variable (V0 : Valuation τ sig (Elt F))

/-- The reference's first hidden state. -/
theorem v52_eq : res_main_v52 V0 = stepR (res_main_v19 V0) (V0 (Proc.devRef .tc main_arg3)) (V0 (Proc.devRef .tc main_arg5)) (res_main_v23 V0) := rfl
/-- Its second. -/
theorem v81_eq : res_main_v81 V0 = stepR (res_main_v19 V0) (V0 (Proc.devRef .tc main_arg3)) (V0 (Proc.devRef .tc main_arg5)) (res_main_v52 V0) := rfl
/-- Its third. -/
theorem v110_eq : res_main_v110 V0 = stepR (res_main_v19 V0) (V0 (Proc.devRef .tc main_arg3)) (V0 (Proc.devRef .tc main_arg5)) (res_main_v81 V0) := rfl
/-- Its fourth. -/
theorem v139_eq : res_main_v139 V0 = stepR (res_main_v19 V0) (V0 (Proc.devRef .tc main_arg3)) (V0 (Proc.devRef .tc main_arg5)) (res_main_v110 V0) := rfl
/-- The reference's head values: its fifth hidden state times the head weights, plus their bias. -/
theorem v172_eq : res_main_v172 V0 =
    addf (Host.dotGeneral dot_S5x30000x128_S128x3_S5x30000x3_2_0_01_1_n_n none
        (stepR (res_main_v19 V0) (V0 (Proc.devRef .tc main_arg3)) (V0 (Proc.devRef .tc main_arg5)) (res_main_v139 V0)) (V0 (Proc.devRef .tc main_arg6)))
      (broadcastInDim S5x30000x3 ![0, 1, 2] bcast_S1x1x3_S5x30000x3_0_1_2 (broadcastInDim S1x1x3 ![2] bcast_S3_S1x1x3_2 (V0 (Proc.devRef .tc main_arg7)))) := rfl

end Cert.ReferenceIdeal.Body

end
-- ==== Proof.RAt.lean ====
module

public import proofs.«01_k».proof.Proof.RForm
public import proofs.«01_k».proof.Proof.KAt

@[expose] public section

noncomputable section

namespace Cert.ReferenceIdeal.Body

open Idealize.ShloMosaic Idealize.ShloMosaic.TcCoe Idealize.SL.Sem
open Cert.ReferenceIdeal Cert.ReferenceIdeal.Gen Cert.ReferenceIdeal.Value Cert.Row
open Cert.KernelIdeal.Body (mat cub rsq dsq)

/-! ### Taking slabs along the first of three axes -/

/-- The dimension numbers of a take of whole slabs `[1, C, D]` of an array `[N, C, D]` at `B` positions. -/
abbrev slabDims (N C D B : ℕ) (wf : GatherDims.WF ⟨3, ![N, C, D]⟩ ⟨2, ![B, 1]⟩ ⟨3, ![B, C, D]⟩ [1, 2] [0] [] [0] [] 1 ![1, C, D]) :
    GatherDims ⟨3, ![N, C, D]⟩ ⟨2, ![B, 1]⟩ ⟨3, ![B, C, D]⟩ where
  offsetDims := [1, 2]
  collapsedSliceDims := [0]
  operandBatchingDims := []
  startIndicesBatchingDims := []
  startIndexMap := [0]
  indexVectorDim := 1
  sliceSizes := ![1, C, D]
  wf := wf

/-- Such a take reads, at position `b`, the slab its index names, read signed and cut to the array. -/
theorem gather_slab {α : Type} {N C D B w : ℕ} (hN : 0 < N)
    (wf : GatherDims.WF ⟨3, ![N, C, D]⟩ ⟨2, ![B, 1]⟩ ⟨3, ![B, C, D]⟩ [1, 2] [0] [] [0] [] 1 ![1, C, D])
    (x : (⟨3, ![N, C, D]⟩ : Shape).Idx → α) (idx : IVec ⟨2, ![B, 1]⟩ w) (b : Fin B) (i : Fin C) (k : Fin D) :
    Host.gather (slabDims N C D B wf) x idx (ix3 b i k) = x (ix3 ⟨min (idx (ix2 b 0)).toInt.toNat (N - 1), by omega⟩ i k) := by
  unfold Host.gather
  congr 1
  funext a
  refine Fin.ext ?_
  show (slabDims N C D B wf).start (ix3 b i k) idx a + (slabDims N C D B wf).batchCoord (ix3 b i k) a
    + (slabDims N C D B wf).offCoord (ix3 b i k) a = _
  rw [GatherDims.batchCoord_eq_zero _ _ _ List.not_mem_nil]
  have kept : ∀ e : Fin 3, e ≠ 0 → (slabDims N C D B wf).start (ix3 b i k) idx e = 0 := fun e he => by
    unfold GatherDims.start
    rw [dif_neg (fun h => he (List.mem_singleton.mp h))]
  have off : ∀ (e : Fin 3) (he : e ≠ 0), e ∈ (slabDims N C D B wf).sKept := fun e he =>
    (GatherDims.mem_sKept _ _).mpr ⟨fun h => he (List.mem_singleton.mp h), List.not_mem_nil⟩
  match a with
  | ⟨0, _⟩ =>
    show (slabDims N C D B wf).start (ix3 b i k) idx (0 : Fin 3) + 0 + (slabDims N C D B wf).offCoord (ix3 b i k) (0 : Fin 3) = _
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N C D B wf).startIndexMap from List.mem_singleton.mpr rfl)]
    have hsi : (slabDims N C D B wf).siIdx (ix3 b i k) ⟨List.idxOf (0 : Fin 3) (slabDims N C D B wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hsi]
    rfl
  | ⟨1, _⟩ =>
    show (slabDims N C D B wf).start (ix3 b i k) idx (1 : Fin 3) + 0 + (slabDims N C D B wf).offCoord (ix3 b i k) (1 : Fin 3) = _
    rw [kept 1 (by decide), GatherDims.offCoord, dif_pos (off 1 (by decide))]
    simp only [Nat.zero_add]
    rfl
  | ⟨2, _⟩ =>
    show (slabDims N C D B wf).start (ix3 b i k) idx (2 : Fin 3) + 0 + (slabDims N C D B wf).offCoord (ix3 b i k) (2 : Fin 3) = _
    rw [kept 2 (by decide), GatherDims.offCoord, dif_pos (off 2 (by decide))]
    simp only [Nat.zero_add]
    rfl

/-- The positions the reference takes at, from the training years. -/
def years (a9 : IVec S5 32) : IVec S5x1 32 :=
  broadcastInDim S5x1 ![0] bcast_S5_S5x1_0 (select (cmpi .slt a9 (broadcastInDim S5 ![] bcast_S_S5 (constantI S_ 32 0#32)))
    (addi a9 (broadcastInDim S5 ![] bcast_S_S5 (constantI S_ 32 10#32))) a9)

/-- When the training years are the first five, the position taken at `y` is `y`. -/
theorem years_at (a9 : IVec S5 32) (h : ∀ y : Fin 5, a9 (ix1 y) = BitVec.ofNat 32 y.val) (y : Fin 5) :
    (⟨min (years a9 (ix2 y 0)).toInt.toNat (10 - 1), by omega⟩ : Fin 10) = ⟨y.val, by omega⟩ := by
  have e : years a9 (ix2 y 0) = BitVec.ofNat 32 y.val := by
    unfold years
    pointwise
    rw [h]
    revert y
    decide
  refine Fin.ext ?_
  show min (years a9 (ix2 y 0)).toInt.toNat (10 - 1) = y.val
  rw [e]
  clear e
  revert y
  decide

/-! ### The reference's arrays at an index -/

variable (V0 : Valuation τ sig (Elt Ideal))

/-- The arguments the loss reads as functions of their coordinates. -/
abbrev vX : Fin 10 → Fin 30000 → Fin 256 → EReal := cub (V0 (Proc.devRef .tc main_arg0))
abbrev vWe : Fin 256 → Fin 128 → EReal := mat (V0 (Proc.devRef .tc main_arg1))
abbrev vWi : Fin 128 → Fin 384 → EReal := mat (V0 (Proc.devRef .tc main_arg2))
abbrev vWh : Fin 128 → Fin 384 → EReal := mat (V0 (Proc.devRef .tc main_arg3))
abbrev vWd : Fin 128 → Fin 3 → EReal := mat (V0 (Proc.devRef .tc main_arg6))
abbrev vY : Fin 10 → Fin 30000 → Fin 5 → EReal := cub (V0 (Proc.devRef .tc main_arg8))

/-- What the reference is read under: zero biases, and the first five years in order. -/
structure Plain : Prop where
  b4 : ∀ j : Fin 384, (V0 (Proc.devRef .tc main_arg4) : FVec Ideal S384 .f32) (ix1 j) = (0 : EReal)
  b5 : ∀ j : Fin 384, (V0 (Proc.devRef .tc main_arg5) : FVec Ideal S384 .f32) (ix1 j) = (0 : EReal)
  b7 : ∀ j : Fin 3, (V0 (Proc.devRef .tc main_arg7) : FVec Ideal S3 .f32) (ix1 j) = (0 : EReal)
  yr : ∀ y : Fin 5, (V0 (Proc.devRef .tc main_arg9) : IVec S5 32) (ix1 y) = BitVec.ofNat 32 y.val

/-- The embedding of year `y`, cell `i`. -/
theorem v1_at (y : Fin 10) (i : Fin 30000) (k : Fin 128) :
    (res_main_v1 V0 : FVec Ideal S10x30000x128 .f32) (ix3 y i k) = emb (vWe V0) (vX V0 y i) k := by
  unfold res_main_v1 emb
  pointwise

/-- The input parts of the gates. -/
theorem v19_at (h : Plain V0) (y : Fin 5) (i : Fin 30000) (j : Fin 384) :
    (res_main_v19 V0 : FVec Ideal S5x30000x384 .f32) (ix3 y i j) = lin (vWi V0) (emb (vWe V0) (vX V0 ⟨y.val, by omega⟩ i)) j := by
  have hg : ∀ k, Host.gather gather_S10x30000x128_S5x1_S5x30000x128_12_0_n_n_0_1_130000128 (res_main_v1 V0)
      (years (V0 (Proc.devRef .tc main_arg9))) (ix3 y i k) = emb (vWe V0) (vX V0 ⟨y.val, by omega⟩ i) k := fun k =>
    (gather_slab (by omega) gather_S10x30000x128_S5x1_S5x30000x128_12_0_n_n_0_1_130000128.wf (res_main_v1 V0) _ y i k).trans (by
      rw [years_at _ h.yr]; exact v1_at V0 _ i k)
  unfold res_main_v19 lin
  simp only [← hg, years]
  pointwise
  erw [h.b4 j]
  rw [add_zero]

/-- A step of the recurrence with a zero bias. -/
theorem stepR_at (x : FVec Ideal S5x30000x384 .f32) (W : FVec Ideal S128x384 .f32) (b : FVec Ideal S384 .f32) (hb : ∀ j : Fin 384, b (ix1 j) = (0 : EReal))
    (h : FVec Ideal S5x30000x128 .f32) (y : Fin 5) (i : Fin 30000) :
    cub (stepR x W b h) y i = step gateR (cub x y i) (mat W) (cub h y i) := funext fun k => by
  show stepR x W b h (ix3 y i k) = _
  unfold stepR sigm hid step gateR lgs lin
  pointwise
  simp only [hb, add_zero]

/-- The head values of year `y`, cell `i`, by the reference's steps. -/
def rowR (y : Fin 10) (i : Fin 30000) : Fin 3 → EReal := head (vWd V0) (hidR (lin (vWi V0) (emb (vWe V0) (vX V0 y i))) (vWh V0))

/-- The reference's head values are those of the row's five steps. -/
theorem v172_at (h : Plain V0) (y : Fin 5) (i : Fin 30000) (j : Fin 3) :
    (res_main_v172 V0 : FVec Ideal S5x30000x3 .f32) (ix3 y i j) = rowR V0 ⟨y.val, by omega⟩ i j := by
  have ex : cub (res_main_v19 V0 : FVec Ideal S5x30000x384 .f32) y i = lin (vWi V0) (emb (vWe V0) (vX V0 ⟨y.val, by omega⟩ i)) :=
    funext fun j => v19_at V0 h y i j
  have e23 : cub (res_main_v23 V0 : FVec Ideal S5x30000x128 .f32) y i = fun _ => 0 := funext fun k => by
    show (res_main_v23 V0 : FVec Ideal S5x30000x128 .f32) (ix3 y i k) = _
    unfold res_main_v23
    pointwise
  have es : ∀ g, cub (stepR (res_main_v19 V0) (V0 (Proc.devRef .tc main_arg3)) (V0 (Proc.devRef .tc main_arg5)) g) y i
      = step gateR (lin (vWi V0) (emb (vWe V0) (vX V0 ⟨y.val, by omega⟩ i))) (vWh V0) (cub g y i) := fun g => by
    rw [stepR_at _ _ _ h.b5, ex]
  have e52 := (congrArg (cub · y i) (v52_eq V0)).trans ((es _).trans (congrArg (step gateR _ _) e23))
  have e81 := (congrArg (cub · y i) (v81_eq V0)).trans ((es _).trans (congrArg (step gateR _ _) e52))
  have e110 := (congrArg (cub · y i) (v110_eq V0)).trans ((es _).trans (congrArg (step gateR _ _) e81))
  have e139 := (congrArg (cub · y i) (v139_eq V0)).trans ((es _).trans (congrArg (step gateR _ _) e110))
  have e5 := (es (res_main_v139 V0)).trans (congrArg (step gateR _ _) e139)
  rw [v172_eq]
  unfold rowR head hidR
  rw [← e5]
  pointwise
  erw [h.b7 j]
  rw [add_zero]

/-- The reference's curve. -/
theorem v205_at (h : Plain V0) (y : Fin 5) (i : Fin 30000) (l : Fin 5) :
    (res_main_v205 V0 : FVec Ideal S5x30000x5 .f32) (ix3 y i l) = curve (rowR V0 ⟨y.val, by omega⟩ i) l.val := by
  unfold res_main_v205 res_main_call1_v3 res_main_v174 res_main_call1_cst res_main_call2_v3 res_main_v179 res_main_call2_cst curve sp
  simp only [← v172_at V0 h y i]
  pointwise
  rw [if_neg (not_not.mpr rfl), if_neg (not_not.mpr rfl), Cert.Consts.two_f32, div_sqrt_two]
  simp only [zero_sub, add_comm (1 : EReal)]

/-- The reference's residuals. -/
theorem v222_at (h : Plain V0) (y : Fin 5) (i : Fin 30000) (l : Fin 5) :
    (res_main_v222 V0 : FVec Ideal S5x30000x5 .f32) (ix3 y i l) = resid (rowR V0 ⟨y.val, by omega⟩ i) (vY V0 ⟨y.val, by omega⟩ i l) l.val := by
  have hg : Host.gather gather_S10x30000x5_S5x1_S5x30000x5_12_0_n_n_0_1_1300005 (V0 (Proc.devRef .tc main_arg8))
      (years (V0 (Proc.devRef .tc main_arg9))) (ix3 y i l) = vY V0 ⟨y.val, by omega⟩ i l :=
    (gather_slab (by omega) gather_S10x30000x5_S5x1_S5x30000x5_12_0_n_n_0_1_1300005.wf (V0 (Proc.devRef .tc main_arg8)) _ y i l).trans (by
      rw [years_at _ h.yr])
  unfold res_main_v222 resid incr
  rw [← hg]
  simp only [years]
  pointwise
  have e := v205_at V0 h y i
  by_cases hl : l.val < 1
  · rw [dif_pos hl, if_pos hl]; erw [e]
  · rw [dif_neg hl, if_neg hl]; erw [e, e]
    simp only [show 1 + (l.val - 1) = l.val by omega]

/-- The reference's squared-step source. -/
theorem v4_at (s : Fin 9) (i : Fin 30000) (k : Fin 128) :
    (res_main_v4 V0 : FVec Ideal S9x30000x128 .f32) (ix3 s i k)
      = emb (vWe V0) (vX V0 ⟨s.val, by omega⟩ i) k - emb (vWe V0) (vX V0 ⟨s.val + 1, by omega⟩ i) k := by
  rw [← v1_at, ← v1_at]
  unfold res_main_v4
  pointwise
  simp only [add_comm 1 s.val]

/-- The reference's result. -/
def refOut : FVec Ideal S_ .f32 :=
  addf (Host.divf (Host.reduceAdd (mulf (res_main_v222 V0) (res_main_v222 V0)) (constant S_ .f32 0x00000000#32) reducesTo_S5x30000x5_S_d0_1_2 h_S_) (constant S_ .f32 0x49371B00#32))
    (mulf (constant S_ .f32 0x3A83126F#32) (Host.divf (Host.reduceAdd (Host.reduceAdd (mulf (res_main_v4 V0) (res_main_v4 V0)) (constant S_ .f32 0x00000000#32) reducesTo_S9x30000x128_S9x30000_d2 h_S_) (constant S_ .f32 0x00000000#32) reducesTo_S9x30000_S_d0_1 h_S_) (constant S_ .f32 0x4883D600#32)))

/-- The reference's result as its two mean sums. -/
theorem refOut_at (h : Plain V0) : refOut V0 = fun _ =>
    Ideal.div (∑ y : Fin 5, ∑ i : Fin 30000, ∑ l : Fin 5, rsq (rowR V0 ⟨y.val, by omega⟩ i) (vY V0 ⟨y.val, by omega⟩ i l) l.val) (Ideal.ofBits .f32 0x49371B00#32)
      + Ideal.ofBits .f32 0x3A83126F#32 * Ideal.div (∑ s : Fin 9, ∑ i : Fin 30000, ∑ k : Fin 128,
        dsq (emb (vWe V0) (vX V0 ⟨s.val, by omega⟩ i) k) (emb (vWe V0) (vX V0 ⟨s.val + 1, by omega⟩ i) k)) (Ideal.ofBits .f32 0x4883D600#32) := funext fun j => by
  unfold refOut rsq dsq
  simp only [← v222_at V0 h, ← v4_at V0]
  pointwise

end Cert.ReferenceIdeal.Body

end
-- ==== Proof.Pre.lean ====
module

public import proofs.«01_k».proof.Proof.Consts
public import proofs.«01_k».proof.Proof.Row
public import proofs.«01_k».proof.Pre_as_drawn
public import Idealize.ShloMosaic.Lib.ReduceAll
public import Idealize.ShloMosaic.Lib.StableHlo.Predicate
public import Idealize.ShloMosaic.Lib.Pointwise

@[expose] public section

noncomputable section

namespace Cert.Pre_as_drawn

open Idealize.ShloMosaic Cert.Row

/-- The shape relations of the printed precondition. -/
instance facts : Facts where
  slices_S128x384_S128x128_0_256 := by decide
  bcast_S_S128x128 := by decide
  reducesTo_S128x128_S_d0_1 := by decide
  h_S_ := by decide
  bcast_S_S384 := by decide
  reducesTo_S384_S_d0 := by decide
  bcast_S_S3 := by decide
  reducesTo_S3_S_d0 := by decide
  reducesTo_S5_S_d0 := by decide

open Facts

/-- A word of one bit that is the `and` of two is 1 only when both are, at the one index of a scalar. -/
theorem and_split (a b : IVec S_ 1) (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

/-- An extended real whose magnitude compares below the infinite one is a real number. -/
theorem isR_of_lt (x : EReal) (h : Ideal.cmp .olt (max x (-x)) (⊤ : EReal) = 1#1) : IsR x := by
  have hl : max x (-x) < ⊤ := (Ideal.cmp_olt_eq_one _ _).1 h
  have h1 : x ≠ ⊤ := fun e => absurd (lt_of_le_of_lt (le_max_left _ _) hl) (by rw [e]; exact lt_irrefl _)
  have h2 : x ≠ ⊥ := fun e => absurd (lt_of_le_of_lt (le_max_right _ _) hl) (by rw [e, EReal.neg_bot]; exact lt_irrefl _)
  exact ⟨x.toReal, (EReal.coe_toReal h1 h2).symm⟩

/-- What a printed `jnp.all(jnp.abs(x) < inf)` says: every element is a real number. -/
theorem all_finite {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant S_ .f32 0x7F800000#32))) (constantI S_ 1 1#1) hr h_S_
      = fun _ => 1#1) (i : s.Idx) : IsR (x i) := by
  have e := Host.reduce_andi_all _ _ hr h_S_ _ (congrFun h ix0) i
  exact isR_of_lt _ (by rw [← Cert.Consts.inf_f32]; exact e)

/-- What a printed `jnp.all(b == 0)` says: every element is zero. -/
theorem all_zero {s : Shape} {axes : List (Fin s.rank)} (x : FVec Ideal s .f32) (hb : S_.BroadcastsInDim s (![] : Fin 0 → Fin s.rank))
    (hr : s.ReducesTo axes S_)
    (h : Host.reduce IntOp.andi (cmpf .oeq x (broadcastInDim s ![] hb (constant S_ .f32 0x00000000#32))) (constantI S_ 1 1#1) hr h_S_
      = fun _ => 1#1) (i : s.Idx) : x i = (0 : EReal) := by
  have e : Ideal.cmp .oeq (x i) (Ideal.ofBits .f32 0x00000000#32) = 1#1 := Host.reduce_andi_all _ _ hr h_S_ _ (congrFun h ix0) i
  rw [Ideal.ofBits_zero] at e
  by_contra hne
  rw [Ideal.cmp_oeq, decide_eq_false hne] at e
  exact absurd e (by decide)

/-- What the precondition says of the arguments: the recurrent weights of the candidate are real numbers, the biases are
    zero, and the training years are 0, 1, 2, 3, 4. -/
theorem fn_says (a0 : FVec Ideal S10x30000x256 .f32) (a1 : FVec Ideal S256x128 .f32) (a2 a3 : FVec Ideal S128x384 .f32)
    (a4 a5 : FVec Ideal S384 .f32) (a6 : FVec Ideal S128x3 .f32) (a7 : FVec Ideal S3 .f32) (a8 : FVec Ideal S10x30000x5 .f32) (a9 : IVec S5 32)
    (h : fn (F := Ideal) a0 a1 a2 a3 a4 a5 a6 a7 a8 a9 = fun _ => 1#1) :
    (∀ k i : Fin 128, IsR (a3 (ix2 k (c2 i)))) ∧ (∀ i, a4 i = (0 : EReal)) ∧ (∀ i, a5 i = (0 : EReal))
      ∧ (∀ i, a7 i = (0 : EReal)) ∧ ∀ y : Fin 5, a9 (ix1 y) = BitVec.ofNat 32 y.val := by
  unfold fn fn_part1 at h
  obtain ⟨h, e9⟩ := and_split _ _ h
  obtain ⟨h, e7⟩ := and_split _ _ h
  obtain ⟨h, e5⟩ := and_split _ _ h
  obtain ⟨e3, e4⟩ := and_split _ _ h
  refine ⟨fun k i => ?_, all_zero _ _ _ e4, all_zero _ _ _ e5, all_zero _ _ _ e7, fun y => ?_⟩
  · have e := all_finite _ _ _ e3 (ix2 k i)
    have r : extractStridedSlice S128x128 ![0, 256] a3 slices_S128x384_S128x128_0_256 (ix2 k i) = a3 (ix2 k (c2 i)) := by
      pointwise
    exact r ▸ e
  · have e : IntOp.cmpi .eq (a9 (ix1 y)) (BitVec.ofNat 32 y.val) = 1#1 :=
      Host.reduce_andi_all _ _ reducesTo_S5_S_d0 h_S_ _ (congrFun e9 ix0) (ix1 y)
    exact StableHlo.Predicate.cmpi_eq_iff.1 e

end Cert.Pre_as_drawn

end
-- ==== Proof.Eq.lean ====
module

public import proofs.«01_k».proof.Proof.KSum
public import proofs.«01_k».proof.Proof.RAt
public import proofs.«01_k».proof.Proof.Pre

@[expose] public section

noncomputable section

namespace Cert.Equal

open Idealize.ShloMosaic Idealize.ShloMosaic.TcCoe Idealize.SL.Sem
open Cert.Row
open Cert.KernelIdeal.Body (mat cub rsq dsq cell rowK predPart timePart argX argWe argWi argWh argWd argY tail pred time tail_at)
open Cert.ReferenceIdeal.Body (vX vWe vWi vWh vWd vY Plain rowR refOut refOut_at)

/-- Summing over the blocks, and over the cells of each, is summing over all the cells. -/
theorem sum_cells (f : Fin 30000 → EReal) : ∑ t : Fin 50, ∑ n : Fin 600, f (cell t n) = ∑ i, f i := by
  rw [← Fintype.sum_prod_type' (fun (t : Fin 50) (n : Fin 600) => f (cell t n))]
  rw [← Equiv.sum_comp (finProdFinEquiv (m := 50) (n := 600)) f]
  refine Finset.sum_congr rfl fun p _ => congrArg f (Fin.ext ?_)
  show 600 * p.1.val + p.2.val = p.2.val + 600 * p.1.val
  omega

/-- The kernel's order of the first sum, and the reference's. -/
theorem sum_pred (f : Fin 5 → Fin 30000 → Fin 5 → EReal) :
    ∑ t : Fin 50, ∑ l : Fin 5, ∑ n : Fin 600, ∑ y : Fin 5, f y (cell t n) l = ∑ y, ∑ i, ∑ l, f y i l := by
  rw [Finset.sum_comm (s := (Finset.univ : Finset (Fin 5))) (t := (Finset.univ : Finset (Fin 30000)))]
  rw [← sum_cells]
  refine Finset.sum_congr rfl fun t _ => ?_
  rw [Finset.sum_comm]
  exact Finset.sum_congr rfl fun n _ => Finset.sum_comm

/-- The kernel's order of the second sum, and the reference's. -/
theorem sum_time (f : Fin 9 → Fin 30000 → Fin 128 → EReal) :
    ∑ t : Fin 50, ∑ n : Fin 600, ∑ k : Fin 128, ∑ s : Fin 9, f s (cell t n) k = ∑ s, ∑ i, ∑ k, f s i k := by
  rw [Finset.sum_comm (s := (Finset.univ : Finset (Fin 9))) (t := (Finset.univ : Finset (Fin 30000)))]
  rw [← sum_cells]
  exact Finset.sum_congr rfl fun t _ => Finset.sum_congr rfl fun n _ => Finset.sum_comm

variable (m : (ℓ : Loc KernelIdeal.nD KernelIdeal.τ KernelIdeal.sig) → Buf (Elt Ideal) ℓ)
  (V0 : Valuation ReferenceIdeal.τ ReferenceIdeal.sig (Elt Ideal)) (c : Dev KernelIdeal.nD)

/-- The reference's values under `V0` are the kernel's arguments on core `c`. -/
structure Agrees : Prop where
  a0 : vX V0 = argX m c
  a1 : vWe V0 = argWe m c
  a2 : vWi V0 = argWi m c
  a3 : vWh V0 = argWh m c
  a6 : vWd V0 = argWd m c
  a8 : vY V0 = argY m c

/-- With real candidate weights the kernel's head values are the reference's. -/
theorem row_eq (h : Agrees m V0 c) (hH : ∀ k i, IsR (argWh m c k (c2 i))) (y : Fin 10) (i : Fin 30000) : rowK m c y i = rowR V0 y i := by
  unfold rowK rowR
  rw [h.a0, h.a1, h.a2, h.a3, h.a6, hid_eq _ hH]

/-- The kernel's result is the reference's. -/
theorem value_eq (h : Agrees m V0 c) (hV : Plain V0) (hH : ∀ k i, IsR (argWh m c k (c2 i))) :
    refOut V0 = tail (pred m c) (time m c) := by
  have hp : ∑ t : Fin 50, predPart m c t = ∑ y : Fin 5, ∑ i : Fin 30000, ∑ l : Fin 5,
      rsq (rowR V0 ⟨y.val, by omega⟩ i) (vY V0 ⟨y.val, by omega⟩ i l) l.val := by
    rw [← sum_pred, h.a8]
    simp only [← row_eq m V0 c h hH]
    rfl
  have ht : ∑ t : Fin 50, timePart m c t = ∑ s : Fin 9, ∑ i : Fin 30000, ∑ k : Fin 128,
      dsq (emb (vWe V0) (vX V0 ⟨s.val, by omega⟩ i) k) (emb (vWe V0) (vX V0 ⟨s.val + 1, by omega⟩ i) k) := by
    rw [h.a0, h.a1, ← sum_time (fun s i k => dsq (emb (argWe m c) (argX m c ⟨s.val, by omega⟩ i) k) (emb (argWe m c) (argX m c ⟨s.val + 1, by omega⟩ i) k))]
    rfl
  rw [refOut_at V0 hV, tail_at, hp, ht]

/-- The same from what the claim gives: the precondition on the kernel's arguments, and the two memories agreeing on the
    arguments. -/
theorem value_of_pre (m' : (ℓ : Loc ReferenceIdeal.nD ReferenceIdeal.τ ReferenceIdeal.sig) → Buf (Elt Ideal) ℓ)
    (hp : Cert.Pre_as_drawn.fn (F := Ideal) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2))
      (m ((c.tc : Thread KernelIdeal.nD KernelIdeal.τ).loc KernelIdeal.main_arg3)) (m ((c.tc : Thread KernelIdeal.nD KernelIdeal.τ).loc KernelIdeal.main_arg4))
      (m ((c.tc : Thread KernelIdeal.nD KernelIdeal.τ).loc KernelIdeal.main_arg5)) (m ((c.tc : Thread KernelIdeal.nD KernelIdeal.τ).loc KernelIdeal.main_arg6))
      (m ((c.tc : Thread KernelIdeal.nD KernelIdeal.τ).loc KernelIdeal.main_arg7)) (m ((c.tc : Thread KernelIdeal.nD KernelIdeal.τ).loc KernelIdeal.main_arg8))
      (m ((c.tc : Thread KernelIdeal.nD KernelIdeal.τ).loc KernelIdeal.main_arg9)) = fun _ => 1#1)
    (ha : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)) :
    refOut (StableHlo.launchContents m' c) = tail (pred m c) (time m c) := by
  obtain ⟨h3, h4, h5, h7, h9⟩ := Cert.Pre_as_drawn.fn_says _ _ _ _ _ _ _ _ _ _ hp
  obtain ⟨g0, g1, g2, g3, g4, g5, g6, g7, g8, g9⟩ := ha
  exact value_eq m _ c ⟨congrArg cub g0, congrArg mat g1, congrArg mat g2, congrArg mat g3, congrArg mat g6, congrArg cub g8⟩
    ⟨fun j => (congrFun g4 (ix1 j)).trans (h4 _), fun j => (congrFun g5 (ix1 j)).trans (h5 _), fun j => (congrFun g7 (ix1 j)).trans (h7 _),
      fun y => (congrFun g9 (ix1 y)).trans (h9 y)⟩ h3

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Eq
public import Idealize.ShloMosaic.Adequacy
public import Idealize.ShloMosaic.Init
public import Idealize.ShloMosaic.Lib.Quiescent

@[expose] public section

noncomputable section

namespace Cert.Proof

open Idealize.ShloMosaic Idealize.SL.Sem

/-- The host-only reference terminates, keeps its arguments and has no semaphores. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant is `1/√2`. -/
theorem preserves : Cert.preserves_Kernel_KernelIdeal :=
  IdealRules.named_const.statement Cert.KernelIdeal.κ "inv_sqrt_2" .f32 0x3F3504F3#32 (((Real.sqrt 2)⁻¹ : ℝ) : EReal) rfl

/-- From memories agreeing on the arguments, under the precondition, the two programs end with the same loss. -/
theorem algebraic : Cert.algebraic_KernelIdeal_ReferenceIdeal_pre_as_drawn := fun m ρ m' ρ' hp ha =>
  ⟨fun c => Cert.KernelIdeal.Body.tail (Cert.KernelIdeal.Body.pred m c) (Cert.KernelIdeal.Body.time m c),
    Cert.KernelIdeal.Body.run m ρ,
    (θ_run Cert.ReferenceIdeal.defs _ _).mono (fun r h c => ⟨(h c).1.trans (Cert.Equal.value_of_pre m c m' (hp c) (ha c)), (h c).2⟩)
      (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts, Cert.Pre_as_drawn.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, preserves, algebraic⟩

end Cert.Proof

end
